-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_drive [hPre_finite_drive : Cert.Pre_finite_drive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_drive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_drive [hPre_finite_drive : Cert.Pre_finite_drive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_drive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_drive [hKernelIdeal : Cert.KernelIdeal.Facts] [hPre_finite_drive : Cert.Pre_finite_drive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_drive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_drive [hReferenceIdeal : Cert.ReferenceIdeal.Facts] [hPre_finite_drive : Cert.Pre_finite_drive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_drive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_drive [hKernelIdeal : Cert.KernelIdeal.Facts] [hReferenceIdeal : Cert.ReferenceIdeal.Facts] [hPre_finite_drive : Cert.Pre_finite_drive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_drive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_drive : Cert.Pre_finite_drive.Facts),
    quiescent_Kernel (hKernel := hKernel)
    ∧ quiescent_KernelIdeal (hKernelIdeal := hKernelIdeal)
    ∧ quiescent_KernelIdeal_pre_finite_drive (hKernelIdeal := hKernelIdeal) (hPre_finite_drive := hPre_finite_drive)
    ∧ quiescent_ReferenceIdeal (hReferenceIdeal := hReferenceIdeal)
    ∧ quiescent_ReferenceIdeal_pre_finite_drive (hReferenceIdeal := hReferenceIdeal) (hPre_finite_drive := hPre_finite_drive)
    ∧ preserves_Kernel_KernelIdeal
    ∧ algebraic_KernelIdeal_ReferenceIdeal_pre_finite_drive (hKernelIdeal := hKernelIdeal) (hReferenceIdeal := hReferenceIdeal) (hPre_finite_drive := hPre_finite_drive)
-- ==== Pre_finite_drive.lean ====
abbrev S4x4096x1024 : Shape := ⟨3, ![4, 4096, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S4x4096x1024 .f32) (main_arg1 : FVec F S1024 .f32) (main_arg2 : FVec F S1024 .f32) (main_arg3 : FVec F S1024x1024 .f32) (main_arg4 : FVec F S1024 .f32) (main_arg5 : FVec F S1024 .f32) (main_arg6 : FVec F S1024 .f32) (main_arg7 : FVec F S4096x1024 .f32) (main_arg8 : FVec F S4096 .f32) (main_arg9 : FVec F S4096x1024 .f32) (main_arg10 : FVec F S4096 .f32) (main_arg11 : FVec F S1024x4096 .f32) (main_arg12 : FVec F S1024 .f32) : IVec S1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg5
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1024 1 := andi main_v2 main_v5
  main_v6
-- ==== Kernel.lean ====
abbrev S4x4096x1024 : Shape := ⟨3, ![4, 4096, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S1x1024 : Shape := ⟨2, ![1, 1024]⟩
abbrev S1x4096 : Shape := ⟨2, ![1, 4096]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S8x1 : Shape := ⟨2, ![8, 1]⟩
abbrev S8x1024 : Shape := ⟨2, ![8, 1024]⟩
abbrev S504x1024 : Shape := ⟨2, ![504, 1024]⟩
abbrev S511x1024 : Shape := ⟨2, ![511, 1024]⟩
abbrev S2x1024 : Shape := ⟨2, ![2, 1024]⟩
abbrev S510x1024 : Shape := ⟨2, ![510, 1024]⟩
abbrev S4x1024 : Shape := ⟨2, ![4, 1024]⟩
abbrev S508x1024 : Shape := ⟨2, ![508, 1024]⟩
abbrev S16x1024 : Shape := ⟨2, ![16, 1024]⟩
abbrev S496x1024 : Shape := ⟨2, ![496, 1024]⟩
abbrev S32x1024 : Shape := ⟨2, ![32, 1024]⟩
abbrev S480x1024 : Shape := ⟨2, ![480, 1024]⟩
abbrev S64x1024 : Shape := ⟨2, ![64, 1024]⟩
abbrev S448x1024 : Shape := ⟨2, ![448, 1024]⟩
abbrev S128x1024 : Shape := ⟨2, ![128, 1024]⟩
abbrev S384x1024 : Shape := ⟨2, ![384, 1024]⟩
abbrev S256x1024 : Shape := ⟨2, ![256, 1024]⟩
abbrev S512x4096 : Shape := ⟨2, ![512, 4096]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S1024x1024, .bf16⟩
  | .hbm, ⟨14, _⟩ => ⟨S4096x1024, .bf16⟩
  | .hbm, ⟨15, _⟩ => ⟨S4096x1024, .bf16⟩
  | .hbm, ⟨16, _⟩ => ⟨S1024x4096, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x4096, .f32⟩
  | .hbm, ⟨23, _⟩ => ⟨S1x4096, .f32⟩
  | .hbm, ⟨24, _⟩ => ⟨S1x1024, .f32⟩
  | .hbm, ⟨25, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4096x1024, .bf16⟩
  | .local _ .vmem, ⟨9, _⟩ => ⟨S4096x1024, .bf16⟩
  | .local _ .vmem, ⟨10, _⟩ => ⟨S1024x4096, .bf16⟩
  | .local _ .vmem, ⟨11, _⟩ => ⟨S1x4096, .f32⟩
  | .local _ .vmem, ⟨12, _⟩ => ⟨S1x4096, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x4096x1024 : Shape := ⟨3, ![4, 4096, 1024]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1024 : Shape := ⟨2, ![4, 1024]⟩
abbrev S4096x4x1024 : Shape := ⟨3, ![4096, 4, 1024]⟩
abbrev S1x4x1024 : Shape := ⟨3, ![1, 4, 1024]⟩
abbrev S1x1024 : Shape := ⟨2, ![1, 1024]⟩
abbrev S4x4096x4096 : Shape := ⟨3, ![4, 4096, 4096]⟩
abbrev S1x1x4096 : Shape := ⟨3, ![1, 1, 4096]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1024, .f32⟩
  | .hbm, ⟨35, _⟩ => ⟨S4096x4x1024, .f32⟩
  | .hbm, ⟨36, _⟩ => ⟨S_, .f32⟩
  | .hbm, ⟨37, _⟩ => ⟨S4096x4x1024, .f32⟩
  | .hbm, ⟨38, _⟩ => ⟨S_, .i32⟩
  | .hbm, ⟨39, _⟩ => ⟨S4096x4x1024, .f32⟩
  | .hbm, ⟨40, _⟩ => ⟨S1024, .f32⟩
  | .hbm, ⟨41, _⟩ => ⟨S_, .i32⟩
  | .hbm, ⟨42, _⟩ => ⟨S4x1024, .f32⟩
  | .hbm, ⟨43, _⟩ => ⟨S4096x4x1024, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x4x1024, .f32⟩
  | .hbm, ⟨49, _⟩ => ⟨S4x1024, .f32⟩
  | .hbm, ⟨50, _⟩ => ⟨S1x1024, .f32⟩
  | .hbm, ⟨51, _⟩ => ⟨S4x1024, .f32⟩
  | .hbm, ⟨52, _⟩ => ⟨S4x1024, .f32⟩
  | .hbm, ⟨53, _⟩ => ⟨S4x1024, .f32⟩
  | .hbm, ⟨54, _⟩ => ⟨S1x4x1024, .f32⟩
  | .hbm, ⟨55, _⟩ => ⟨S_, .i32⟩
  | .hbm, ⟨56, _⟩ => ⟨S_, .i32⟩
  | .hbm, ⟨57, _⟩ => ⟨S4096x4x1024, .f32⟩
  | .hbm, ⟨58, _⟩ => ⟨S_, .i32⟩
  | .hbm, ⟨59, _⟩ => ⟨S_, .i32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S4x4096x4096, .f32⟩
  | .hbm, ⟨83, _⟩ => ⟨S1x1x4096, .f32⟩
  | .hbm, ⟨84, _⟩ => ⟨S4x4096x4096, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096x4096, .f32⟩
  | .hbm, ⟨90, _⟩ => ⟨S4x4096x4096, .f32⟩
  | .hbm, ⟨91, _⟩ => ⟨S_, .f32⟩
  | .hbm, ⟨92, _⟩ => ⟨S4x4096x4096, .f32⟩
  | .hbm, ⟨93, _⟩ => ⟨S4x4096x4096, .f32⟩
  | .hbm, ⟨94, _⟩ => ⟨S4x4096x4096, .f32⟩
  | .hbm, ⟨95, _⟩ => ⟨S4x4096x4096, .f32⟩
  | .hbm, ⟨96, _⟩ => ⟨S1x1x4096, .f32⟩
  | .hbm, ⟨97, _⟩ => ⟨S4x4096x4096, .f32⟩
  | .hbm, ⟨98, _⟩ => ⟨S4x4096x4096, .f32⟩
  | .hbm, ⟨99, _⟩ => ⟨S4x4096x4096, .f32⟩
  | .hbm, ⟨100, _⟩ => ⟨S4x4096x1024, .f32⟩
  | .hbm, ⟨101, _⟩ => ⟨S1x1x1024, .f32⟩
  | .hbm, ⟨102, _⟩ => ⟨S4x4096x1024, .f32⟩
  | .hbm, ⟨103, _⟩ => ⟨S4x4096x1024, .f32⟩
  | .hbm, ⟨104, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_c : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_while0c_c_11 : Ref sig .tc := ⟨.hbm, 44, rfl⟩
abbrev main_while0c_v55 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_v0 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_call1_v0 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_v60 : Ref sig .tc := ⟨.hbm, 57, rfl⟩
abbrev main_while0b_c_11 : Ref sig .tc := ⟨.hbm, 58, rfl⟩
abbrev main_while0b_v61 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_4 : Ref sig .tc := ⟨.hbm, 67, rfl⟩
abbrev main_v28 : Ref sig .tc := ⟨.hbm, 68, rfl⟩
abbrev main_v29 : Ref sig .tc := ⟨.hbm, 69, rfl⟩
abbrev main_cst_5 : Ref sig .tc := ⟨.hbm, 70, rfl⟩
abbrev main_v30 : Ref sig .tc := ⟨.hbm, 71, rfl⟩
abbrev main_v31 : Ref sig .tc := ⟨.hbm, 72, rfl⟩
abbrev main_cst_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩

abbrev nD : Nat := 1
abbrev τ : Topo := Topo.v7x

variable {F : FTy → Type} [FloatOps F]

abbrev main_while0_count : Scf.Loop 32 := ⟨0#32, 4096#32, 1#32⟩
-- ==== Proof.Opened.lean ====
/-
  What one grid point leaves in its output block and in the carried row, opened to the kernel's named values of the blocks
  it reads: at the first point of a batch row over a zero row, at every other point over the row carried to it.
-/
module

public import proofs.«01_k».proof.Proof.Gen.KernelIdeal.Value
public import Idealize.ShloMosaic.Lib.Tactic

@[expose] public section

noncomputable section

namespace Cert.Block

open Idealize.ShloMosaic Idealize.ShloMosaic.TcCoe Idealize.SL.Sem
open Cert.KernelIdeal Cert.KernelIdeal.Gen

variable {F : FTy → Type} [FloatOps F]

/-- The block's rows after seven shifts, -/
def scan7 (x : Vec F S1x512x1024 .f32) (a b n1 : Vec F S1x1024 .f32) (carry : Vec F S1x1024 .f32) : FVec F S512x1024 .f32 :=
  k0_pay13 (k0_pay4 x n1 b) (k0_pay5 a) (k0_pay6 x n1 b a carry)

/-- and the factor of the eighth. -/
def power7 (a : Vec F S1x1024 .f32) : FVec F S1x1024 .f32 := k0_pay14 (k0_pay5 a)

/-- The last row of the block's scan. -/
def lastRow (x : Vec F S1x512x1024 .f32) (a b n1 : Vec F S1x1024 .f32) (carry : Vec F S1x1024 .f32) : Vec F S1x1024 .f32 :=
  k0_pay17 (scan7 x a b n1 carry) (power7 a) k0_pay15

/-- The rows after the recurrence's part of the layer, -/
def stream (x : Vec F S1x512x1024 .f32) (a b : Vec F S1x1024 .f32) (ow : Vec F S1024x1024 .bf16) (ob n1 : Vec F S1x1024 .f32)
    (carry : Vec F S1x1024 .f32) : FVec F S512x1024 .f32 :=
  k0_pay18 (k0_pay3 x) (scan7 x a b n1 carry) (power7 a) k0_pay15 ow ob

/-- and the output block. -/
def outBlock (x : Vec F S1x512x1024 .f32) (a b : Vec F S1x1024 .f32) (ow : Vec F S1024x1024 .bf16) (ob n1 n2 : Vec F S1x1024 .f32)
    (w1 w2 : Vec F S4096x1024 .bf16) (w3 : Vec F S1024x4096 .bf16) (b1 b2 : Vec F S1x4096 .f32) (b3 : Vec F S1x1024 .f32)
    (carry : Vec F S1x1024 .f32) : Vec F S1x512x1024 .f32 :=
  k0_pay1 (stream x a b ow ob n1 carry)
    (k0_pay19 (k0_pay3 x) (scan7 x a b n1 carry) (power7 a) k0_pay15 ow ob n2)
    (k0_pay20 (k0_pay3 x) (scan7 x a b n1 carry) (power7 a) k0_pay15 ow ob n2 w1) b1 w2 b2 w3 b3

/-- A whole block is read and written at the origin. -/
theorem off2 : (![0, 0] : Fin 2 → Nat) = fun _ => 0 := funext fun a => by fin_cases a <;> rfl
theorem off3 : (![0, 0, 0] : Fin 3 → Nat) = fun _ => 0 := funext fun a => by fin_cases a <;> rfl

/-- The output block at every other point. -/
theorem out_B (c : Dev nD) (i : grid0.Coords) (g2 : Memref sig .tc .vmem S1x512x1024 .f32) (h2 : g2.IsWhole) (g3 : Memref sig .tc .vmem S1x1024 .f32) (h3 : g3.IsWhole) (g4 : Memref sig .tc .vmem S1x1024 .f32) (h4 : g4.IsWhole) (g5 : Memref sig .tc .vmem S1024x1024 .bf16) (h5 : g5.IsWhole) (g6 : Memref sig .tc .vmem S1x1024 .f32) (h6 : g6.IsWhole) (g7 : Memref sig .tc .vmem S1x1024 .f32) (h7 : g7.IsWhole) (g8 : Memref sig .tc .vmem S1x1024 .f32) (h8 : g8.IsWhole) (g9 : Memref sig .tc .vmem S4096x1024 .bf16) (h9 : g9.IsWhole) (g10 : Memref sig .tc .vmem S4096x1024 .bf16) (h10 : g10.IsWhole) (g11 : Memref sig .tc .vmem S1024x4096 .bf16) (h11 : g11.IsWhole) (g12 : Memref sig .tc .vmem S1x4096 .f32) (h12 : g12.IsWhole) (g13 : Memref sig .tc .vmem S1x4096 .f32) (h13 : g13.IsWhole) (g14 : Memref sig .tc .vmem S1x1024 .f32) (h14 : g14.IsWhole) (g15 : Memref sig .tc .vmem S1x512x1024 .f32) (h15 : g15.IsWhole) (g16 : Memref sig .tc .vmem S1x1024 .f32) (h16 : g16.IsWhole) (hc : ¬cond0_0 i)
    (x0 : Vec F S1x512x1024 .f32) (x1 : Vec F S1x1024 .f32) (x2 : Vec F S1x1024 .f32) (x3 : Vec F S1024x1024 .bf16) (x4 : Vec F S1x1024 .f32) (x5 : Vec F S1x1024 .f32) (x6 : Vec F S1x1024 .f32) (x7 : Vec F S4096x1024 .bf16) (x8 : Vec F S4096x1024 .bf16) (x9 : Vec F S1024x4096 .bf16) (x10 : Vec F S1x4096 .f32) (x11 : Vec F S1x4096 .f32) (x12 : Vec F S1x1024 .f32) (xs : Vec F S1x1024 .f32) :
    out0_B_13 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 xs =
      outBlock x0 x1 x2 x3 x4 x5 x6 x7 x8 x9 x10 x11 x12 xs := by
  unfold out0_B_13
  rw [View.read_writes_eq_canon _ _ _ (cover0_B_13 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 xs)]
  unfold kernelRun0_B
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, h11.read_unread, h12.read_unread, h13.read_unread, h14.read_unread, h16.read_unread,
    View.ld_unit_zero (S := S1x512x1024) off3, View.ld_unit_zero (S := S1x1024) off2, View.ld_unit_zero (S := S1024x1024) off2, View.ld_unit_zero (S := S4096x1024) off2, View.ld_unit_zero (S := S1024x4096) off2, View.ld_unit_zero (S := S1x4096) off2]
  rfl

/-- The carried row at every other point. -/
theorem sout_B (c : Dev nD) (i : grid0.Coords) (g2 : Memref sig .tc .vmem S1x512x1024 .f32) (h2 : g2.IsWhole) (g3 : Memref sig .tc .vmem S1x1024 .f32) (h3 : g3.IsWhole) (g4 : Memref sig .tc .vmem S1x1024 .f32) (h4 : g4.IsWhole) (g5 : Memref sig .tc .vmem S1024x1024 .bf16) (h5 : g5.IsWhole) (g6 : Memref sig .tc .vmem S1x1024 .f32) (h6 : g6.IsWhole) (g7 : Memref sig .tc .vmem S1x1024 .f32) (h7 : g7.IsWhole) (g8 : Memref sig .tc .vmem S1x1024 .f32) (h8 : g8.IsWhole) (g9 : Memref sig .tc .vmem S4096x1024 .bf16) (h9 : g9.IsWhole) (g10 : Memref sig .tc .vmem S4096x1024 .bf16) (h10 : g10.IsWhole) (g11 : Memref sig .tc .vmem S1024x4096 .bf16) (h11 : g11.IsWhole) (g12 : Memref sig .tc .vmem S1x4096 .f32) (h12 : g12.IsWhole) (g13 : Memref sig .tc .vmem S1x4096 .f32) (h13 : g13.IsWhole) (g14 : Memref sig .tc .vmem S1x1024 .f32) (h14 : g14.IsWhole) (g15 : Memref sig .tc .vmem S1x512x1024 .f32) (h15 : g15.IsWhole) (g16 : Memref sig .tc .vmem S1x1024 .f32) (h16 : g16.IsWhole) (hc : ¬cond0_0 i)
    (x0 : Vec F S1x512x1024 .f32) (x1 : Vec F S1x1024 .f32) (x2 : Vec F S1x1024 .f32) (x3 : Vec F S1024x1024 .bf16) (x4 : Vec F S1x1024 .f32) (x5 : Vec F S1x1024 .f32) (x6 : Vec F S1x1024 .f32) (x7 : Vec F S4096x1024 .bf16) (x8 : Vec F S4096x1024 .bf16) (x9 : Vec F S1024x4096 .bf16) (x10 : Vec F S1x4096 .f32) (x11 : Vec F S1x4096 .f32) (x12 : Vec F S1x1024 .f32) (xs : Vec F S1x1024 .f32) :
    sout0_B_0 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 xs =
      lastRow x0 x1 x2 x5 xs := by
  unfold sout0_B_0
  rw [View.read_writes_eq_canon _ _ _ (scover0_B_0 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 xs)]
  unfold kernelRun0_B
  dsimp only
  sl_unfold_words
  rw [View.canon_unit_zero off2]
  simp only [View.readAt_eq_ld, h2.read_unread, h3.read_unread, h4.read_unread, h5.read_unread, h6.read_unread, h7.read_unread, h8.read_unread, h9.read_unread, h10.read_unread, h11.read_unread, h12.read_unread, h13.read_unread, h14.read_unread, h16.read_unread,
    View.ld_unit_zero (S := S1x512x1024) off3, View.ld_unit_zero (S := S1x1024) off2, View.ld_unit_zero (S := S1024x1024) off2, View.ld_unit_zero (S := S4096x1024) off2, View.ld_unit_zero (S := S1024x4096) off2, View.ld_unit_zero (S := S1x4096) off2]
  rfl

/-- The output block at the first point of a batch row. -/
theorem out_A (c : Dev nD) (i : grid0.Coords) (g2 : Memref sig .tc .vmem S1x512x1024 .f32) (h2 : g2.IsWhole) (g3 : Memref sig .tc .vmem S1x1024 .f32) (h3 : g3.IsWhole) (g4 : Memref sig .tc .vmem S1x1024 .f32) (h4 : g4.IsWhole) (g5 : Memref sig .tc .vmem S1024x1024 .bf16) (h5 : g5.IsWhole) (g6 : Memref sig .tc .vmem S1x1024 .f32) (h6 : g6.IsWhole) (g7 : Memref sig .tc .vmem S1x1024 .f32) (h7 : g7.IsWhole) (g8 : Memref sig .tc .vmem S1x1024 .f32) (h8 : g8.IsWhole) (g9 : Memref sig .tc .vmem S4096x1024 .bf16) (h9 : g9.IsWhole) (g10 : Memref sig .tc .vmem S4096x1024 .bf16) (h10 : g10.IsWhole) (g11 : Memref sig .tc .vmem S1024x4096 .bf16) (h11 : g11.IsWhole) (g12 : Memref sig .tc .vmem S1x4096 .f32) (h12 : g12.IsWhole) (g13 : Memref sig .tc .vmem S1x4096 .f32) (h13 : g13.IsWhole) (g14 : Memref sig .tc .vmem S1x1024 .f32) (h14 : g14.IsWhole) (g15 : Memref sig .tc .vmem S1x512x1024 .f32) (h15 : g15.IsWhole) (g16 : Memref sig .tc .vmem S1x1024 .f32) (h16 : g16.IsWhole) (hc : cond0_0 i)
    (x0 : Vec F S1x512x1024 .f32) (x1 : Vec F S1x1024 .f32) (x2 : Vec F S1x1024 .f32) (x3 : Vec F S1024x1024 .bf16) (x4 : Vec F S1x1024 .f32) (x5 : Vec F S1x1024 .f32) (x6 : Vec F S1x1024 .f32) (x7 : Vec F S4096x1024 .bf16) (x8 : Vec F S4096x1024 .bf16) (x9 : Vec F S1024x4096 .bf16) (x10 : Vec F S1x4096 .f32) (x11 : Vec F S1x4096 .f32) (x12 : Vec F S1x1024 .f32) :
    out0_A_13 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 =
      outBlock x0 x1 x2 x3 x4 x5 x6 x7 x8 x9 x10 x11 x12 k0_pay2 := by
  unfold out0_A_13
  rw [View.read_writes_eq_canon _ _ _ (cover0_A_13 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12)]
  unfold kernelRun0_A
  dsimp only
  sl_unfold_words
  rw [View.canon_unit_zero off3]
  simp only [View.readCov_unit_zero (S := S1x1024) _ off2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S1x512x1024) off3, View.ld_unit_zero (S := S1x1024) off2, View.ld_unit_zero (S := S1024x1024) off2, View.ld_unit_zero (S := S4096x1024) off2, View.ld_unit_zero (S := S1024x4096) off2, View.ld_unit_zero (S := S1x4096) off2]
  rfl

/-- The carried row at the first point of a batch row. -/
theorem sout_A (c : Dev nD) (i : grid0.Coords) (g2 : Memref sig .tc .vmem S1x512x1024 .f32) (h2 : g2.IsWhole) (g3 : Memref sig .tc .vmem S1x1024 .f32) (h3 : g3.IsWhole) (g4 : Memref sig .tc .vmem S1x1024 .f32) (h4 : g4.IsWhole) (g5 : Memref sig .tc .vmem S1024x1024 .bf16) (h5 : g5.IsWhole) (g6 : Memref sig .tc .vmem S1x1024 .f32) (h6 : g6.IsWhole) (g7 : Memref sig .tc .vmem S1x1024 .f32) (h7 : g7.IsWhole) (g8 : Memref sig .tc .vmem S1x1024 .f32) (h8 : g8.IsWhole) (g9 : Memref sig .tc .vmem S4096x1024 .bf16) (h9 : g9.IsWhole) (g10 : Memref sig .tc .vmem S4096x1024 .bf16) (h10 : g10.IsWhole) (g11 : Memref sig .tc .vmem S1024x4096 .bf16) (h11 : g11.IsWhole) (g12 : Memref sig .tc .vmem S1x4096 .f32) (h12 : g12.IsWhole) (g13 : Memref sig .tc .vmem S1x4096 .f32) (h13 : g13.IsWhole) (g14 : Memref sig .tc .vmem S1x1024 .f32) (h14 : g14.IsWhole) (g15 : Memref sig .tc .vmem S1x512x1024 .f32) (h15 : g15.IsWhole) (g16 : Memref sig .tc .vmem S1x1024 .f32) (h16 : g16.IsWhole) (hc : cond0_0 i)
    (x0 : Vec F S1x512x1024 .f32) (x1 : Vec F S1x1024 .f32) (x2 : Vec F S1x1024 .f32) (x3 : Vec F S1024x1024 .bf16) (x4 : Vec F S1x1024 .f32) (x5 : Vec F S1x1024 .f32) (x6 : Vec F S1x1024 .f32) (x7 : Vec F S4096x1024 .bf16) (x8 : Vec F S4096x1024 .bf16) (x9 : Vec F S1024x4096 .bf16) (x10 : Vec F S1x4096 .f32) (x11 : Vec F S1x4096 .f32) (x12 : Vec F S1x1024 .f32) :
    sout0_A_0 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12 =
      lastRow x0 x1 x2 x5 k0_pay2 := by
  unfold sout0_A_0
  rw [View.read_writes_eq_canon _ _ _ (scover0_A_0 c i g2 h2 g3 h3 g4 h4 g5 h5 g6 h6 g7 h7 g8 h8 g9 h9 g10 h10 g11 h11 g12 h12 g13 h13 g14 h14 g15 h15 g16 h16 hc x0 x1 x2 x3 x4 x5 x6 x7 x8 x9 x10 x11 x12)]
  unfold kernelRun0_A
  dsimp only
  sl_unfold_words
  rw [View.canon_cons_unit_zero (S := S1x1024) off2]
  simp only [View.readCov_unit_zero (S := S1x1024) _ off2]
  simp only [View.readAt_eq_ld, h2.read_unread, h3.read_unread, h4.read_unread, h5.read_unread, h6.read_unread, h7.read_unread, h8.read_unread, h9.read_unread, h10.read_unread, h11.read_unread, h12.read_unread, h13.read_unread, h14.read_unread,
    View.ld_unit_zero (S := S1x512x1024) off3, View.ld_unit_zero (S := S1x1024) off2, View.ld_unit_zero (S := S1024x1024) off2, View.ld_unit_zero (S := S4096x1024) off2, View.ld_unit_zero (S := S1024x4096) off2, View.ld_unit_zero (S := S1x4096) off2]
  rfl

end Cert.Block

end
-- ==== Proof.Rows.lean ====
/-
  A row of the residual stream divided by the root of its mean square, over the extended reals. The reference divides by
  the square root and the kernel multiplies by the reciprocal square root; the two agree on every row, infinities
  included, and the normalised row holds reals only.
-/
module

public import Idealize.ShloMosaic.PureOps
public import Idealize.ShloMosaic.PureOps.Ideal.Laws
public import Mathlib.Algebra.BigOperators.Fin

@[expose] public section

noncomputable section

namespace Cert.Block

open Idealize.ShloMosaic
open scoped BigOperators

/-- `z` is a real number: no infinity. -/
def IsReal (z : EReal) : Prop := ∃ r : ℝ, z = (r : EReal)

theorem IsReal.coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, by push_cast; rfl⟩

theorem IsReal.coe_toReal {x : EReal} (hx : IsReal x) : ((x.toReal : ℝ) : EReal) = x := by
  obtain ⟨a, rfl⟩ := hx
  rfl

theorem isReal_of_ne {x : EReal} (hb : x ≠ ⊥) (ht : x ≠ ⊤) : IsReal x :=
  ⟨x.toReal, (EReal.coe_toReal ht hb).symm⟩

theorem isReal_tanh (x : EReal) : IsReal (Ideal.tanh x) := by
  induction x with
  | bot => exact ⟨-1, by simp⟩
  | top => exact ⟨1, by simp⟩
  | coe r => exact ⟨Real.tanh r, rfl⟩

/-- The row's length as the programs write it. -/
abbrev width : EReal := Ideal.ofBits .f32 0x44800000#32
/-- What both programs add to the mean square. -/
abbrev floor : EReal := Ideal.ofBits .f32 0x3727C5AC#32

theorem width_eq : width = ((1024 : ℝ) : EReal) := by
  simp [width, Ideal.ofBits, Ideal.ieee, -EReal.coe_mul]; norm_num

theorem floor_real : ∃ e : ℝ, 0 < e ∧ floor = (e : EReal) := by
  refine ⟨_, ?_, by simp only [floor, Ideal.ofBits, Ideal.ieee]; simp [-EReal.coe_mul]; rfl⟩
  norm_num

/-- The mean square of a row, and the constant. -/
def meanSq (x : Fin 1024 → EReal) : EReal := Ideal.div (∑ k, x k * x k) width + floor

/-- A square is not negative. -/
theorem sq_nonneg' (z : EReal) : 0 ≤ z * z := by
  induction z with
  | bot => simp
  | top => simp
  | coe r => exact_mod_cast mul_self_nonneg r

theorem div_width (s : EReal) : Ideal.div s width = s * (((1024 : ℝ)⁻¹ : ℝ) : EReal) := by
  have h : ((1024 : ℝ) : EReal) ≠ 0 := by exact_mod_cast (by norm_num : (1024 : ℝ) ≠ 0)
  rw [width_eq, Ideal.div, if_neg h, EReal.coe_inv]

/-- The mean square plus the constant is a positive real, and then the row holds reals only, or it is infinite. -/
theorem meanSq_cases (x : Fin 1024 → EReal) :
    meanSq x = ⊤ ∨ ((∃ m : ℝ, 0 < m ∧ meanSq x = (m : EReal)) ∧ ∀ k, IsReal (x k)) := by
  obtain ⟨e, he, hf⟩ := floor_real
  have hs : 0 ≤ ∑ k, x k * x k := Finset.sum_nonneg fun k _ => sq_nonneg' (x k)
  have hle : ∀ k, x k * x k ≤ ∑ k, x k * x k := fun k =>
    Finset.single_le_sum (f := fun k => x k * x k) (fun k _ => sq_nonneg' (x k)) (Finset.mem_univ k)
  rw [meanSq, div_width, hf]
  generalize hS : ∑ k, x k * x k = S at hs hle
  induction S with
  | bot => exact absurd hs (by simp)
  | top =>
    left
    rw [EReal.top_mul_coe_of_pos (by norm_num)]
    rfl
  | coe s =>
    right
    have hs' : 0 ≤ s := by exact_mod_cast hs
    refine ⟨⟨s * 1024⁻¹ + e, by positivity, by push_cast; rfl⟩, fun k => ?_⟩
    refine isReal_of_ne (fun h => ?_) (fun h => ?_)
    · have := hle k
      rw [h] at this
      simp at this
    · have := hle k
      rw [h] at this
      simp at this

/-- Dividing by the root is multiplying by the reciprocal root, at every row and every numerator. -/
theorem div_sqrt_meanSq (x : Fin 1024 → EReal) (z : EReal) :
    Ideal.div z (Ideal.sqrt (meanSq x)) = z * Ideal.rsqrt (meanSq x) := by
  rcases meanSq_cases x with h | ⟨⟨m, hm, h⟩, -⟩
  · rw [h, Ideal.sqrt_top, Ideal.rsqrt_top, Ideal.div, if_neg EReal.top_ne_zero, EReal.inv_top]
  · have hne : ((Real.sqrt m : ℝ) : EReal) ≠ 0 := by exact_mod_cast (Real.sqrt_pos.mpr hm).ne'
    rw [h, Ideal.sqrt_coe, Ideal.rsqrt_coe, if_neg hm.le.not_gt, if_neg hm.le.not_gt, if_neg hm.ne', Ideal.div, if_neg hne,
      EReal.coe_inv]

/-- A normalised row holds reals only. -/
theorem isReal_normalised (x : Fin 1024 → EReal) (k : Fin 1024) : IsReal (x k * Ideal.rsqrt (meanSq x)) := by
  rcases meanSq_cases x with h | ⟨⟨m, hm, h⟩, hx⟩
  · rw [h, Ideal.rsqrt_top, mul_zero]
    exact ⟨0, rfl⟩
  · refine (hx k).mul ?_
    rw [h, Ideal.rsqrt_coe, if_neg hm.le.not_gt, if_neg hm.ne']
    exact ⟨_, rfl⟩

end Cert.Block

end
-- ==== Proof.Scan.lean ====
/-
  The diagonal recurrence `y t = p * y (t - 1) + u t` over the reals, and the kernel's way to it inside one block: start
  from the drive, then for k = 1, 2, 4, … add `p ^ k` times the rows shifted down by `k`. After the step that shifts by
  `k` a row holds its value of the recurrence less `p ^ (2 k)` times the value `2 k` rows above, and nothing is left to
  subtract once `2 k` reaches the block's height.
-/
module

public import proofs.«01_k».proof.Proof.Rows

@[expose] public section

noncomputable section

namespace Cert.Block

open Idealize.ShloMosaic

/-- The recurrence's value before row `t`: nothing before the first row. -/
def carried (p : ℝ) (u : ℕ → ℝ) : ℕ → ℝ
  | 0 => 0
  | t + 1 => p * carried p u t + u t

/-- A column of a block whose rows hold the recurrence, less what the rows `k` above still owe. -/
def Owes (p : ℝ) (y : ℕ → ℝ) (k : ℕ) (v : Fin 512 → EReal) : Prop :=
  ∀ r : Fin 512, v r = ((y r - (if r.val < k then 0 else p ^ k * y (r - k)) : ℝ) : EReal)

theorem Owes.congr {p : ℝ} {y : ℕ → ℝ} {k : ℕ} {v w : Fin 512 → EReal} (h : Owes p y k v) (e : ∀ r, w r = v r) : Owes p y k w :=
  fun r => (e r).trans (h r)

/-- The rows shifted down by `k`, zero above. -/
def shifted (k : ℕ) (v : Fin 512 → EReal) (r : Fin 512) : EReal :=
  if r.val < k then 0 else v ⟨r.val - k, by omega⟩

/-- The step that shifts by `k` doubles the distance. -/
theorem Owes.double {p : ℝ} {y : ℕ → ℝ} {k : ℕ} {v : Fin 512 → EReal} (h : Owes p y k v) {q : EReal}
    (hq : q = ((p ^ k : ℝ) : EReal)) : Owes p y (k + k) fun r => v r + q * shifted k v r := by
  intro r
  change v r + q * shifted k v r = _
  by_cases h1 : r.val < k
  · have h2 : r.val < k + k := by omega
    rw [h r, shifted]
    simp [h1, h2]
  · simp only [shifted, h1, if_false]
    rw [h r, h ⟨r.val - k, by omega⟩, hq, ← EReal.coe_mul, ← EReal.coe_add]
    congr 1
    simp only [h1, if_false]
    by_cases h2 : r.val < k + k
    · have h3 : r.val - k < k := by omega
      simp only [h2, h3, if_true]
      ring
    · have h3 : ¬ r.val - k < k := by omega
      simp only [h2, h3, if_false]
      rw [show r.val - k - k = r.val - (k + k) by omega, pow_add]
      ring

/-- At the block's height nothing is owed. -/
theorem Owes.full {p : ℝ} {y : ℕ → ℝ} {v : Fin 512 → EReal} (h : Owes p y 512 v) (r : Fin 512) : v r = ((y r : ℝ) : EReal) := by
  rw [h r, if_pos r.isLt, sub_zero]

/-- The drive, with `p` times the carried value added to its first row, owes one row. -/
theorem Owes.start (p : ℝ) (u : ℕ → ℝ) (t₀ : ℕ) (v : Fin 512 → EReal)
    (h : ∀ r : Fin 512, v r = ((u (t₀ + r) + (if r.val = 0 then p * carried p u t₀ else 0) : ℝ) : EReal)) :
    Owes p (fun r => carried p u (t₀ + r + 1)) 1 v := by
  intro r
  rw [h r]
  congr 1
  by_cases h0 : r.val = 0
  · simp [h0, carried]; ring
  · have h1 : ¬ r.val < 1 := by omega
    simp only [h0, h1, if_false]
    rw [show t₀ + (r.val - 1) + 1 = t₀ + r.val by omega, carried]
    ring

end Cert.Block

end
-- ==== Proof.Model.lean ====
/-
  The rest of the layer as functions of one row: what the recurrence's row adds to the stream, the second normalisation,
  the gated pair of products and the row that is left.
-/
module

public import proofs.«01_k».proof.Proof.Rows

@[expose] public section

noncomputable section

namespace Cert.Block

open Idealize.ShloMosaic
open scoped BigOperators

/-- The row, and the recurrence's row through the output map. -/
def added (x y : Fin 1024 → EReal) (w : Fin 1024 → Fin 1024 → EReal) (b : Fin 1024 → EReal) (d : Fin 1024) : EReal :=
  x d + ((∑ k, y k * w d k) + b d)

/-- The normalised row times its weights. -/
def normed (x n : Fin 1024 → EReal) (d : Fin 1024) : EReal := x d * Ideal.rsqrt (meanSq x) * n d

/-- A row through one of the two wide maps. -/
def wide (z : Fin 1024 → EReal) (w : Fin 4096 → Fin 1024 → EReal) (b : Fin 4096 → EReal) (h : Fin 4096) : EReal :=
  (∑ k, z k * w h k) + b h

/-- The gated row. -/
def gated (z : Fin 1024 → EReal) (w1 : Fin 4096 → Fin 1024 → EReal) (b1 : Fin 4096 → EReal) (w2 : Fin 4096 → Fin 1024 → EReal)
    (b2 : Fin 4096 → EReal) (h : Fin 4096) : EReal :=
  wide z w2 b2 h * Ideal.logistic (wide z w2 b2 h) * wide z w1 b1 h

/-- The layer's row, of the row `x` that the recurrence's part leaves. -/
def layerRow (x n2 : Fin 1024 → EReal) (w1 : Fin 4096 → Fin 1024 → EReal) (b1 : Fin 4096 → EReal)
    (w2 : Fin 4096 → Fin 1024 → EReal) (b2 : Fin 4096 → EReal) (w3 : Fin 1024 → Fin 4096 → EReal) (b3 : Fin 1024 → EReal)
    (d : Fin 1024) : EReal :=
  x d + ((∑ h, gated (normed x n2) w1 b1 w2 b2 h * w3 d h) + b3 d)

/-- The drive of the recurrence at one channel of a row. -/
def drive (x : Fin 1024 → EReal) (n1 b : Fin 1024 → EReal) (d : Fin 1024) : EReal :=
  x d * Ideal.rsqrt (meanSq x) * (n1 d * b d)

theorem isReal_drive (x : Fin 1024 → EReal) {n1 b : Fin 1024 → EReal} {d : Fin 1024} (hn : IsReal (n1 d)) (hb : IsReal (b d)) :
    IsReal (drive x n1 b d) :=
  (isReal_normalised x d).mul (hn.mul hb)

end Cert.Block

end
-- ==== Proof.BlockScan.lean ====
/-
  The kernel's values of one block read at an index, and the scan inside the block: its rows are the recurrence's, taken
  up at the carried row.
-/
module

public import proofs.«01_k».proof.Proof.Opened
public import proofs.«01_k».proof.Proof.Scan
public import proofs.«01_k».proof.Proof.Model
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen
open scoped BigOperators

/-- A channel of a block, over its rows. -/
def column (y : FVec Ideal S512x1024 .f32) (d : Fin 1024) (r : Fin 512) : EReal := y (ix2 r d)

/-- The rows plus a factor times the rows shifted by 1. -/
def shift1 (y : FVec Ideal S512x1024 .f32) (p : FVec Ideal S1x1024 .f32) : FVec Ideal S512x1024 .f32 :=
  addf y (mulf (broadcastTo S512x1024 p broadcasts_S1x1024_S512x1024)
    (concatenate S512x1024 0 [⟨S1x1024, broadcast S1x1024 (Scalar.ofBits .f32 0x00000000#32)⟩,
      ⟨S511x1024, extractStridedSlice S511x1024 ![0, 0] y slices_S512x1024_o0_0_S511x1024⟩] concatenates_S1x1024_S511x1024_S512x1024_d0))

theorem shift1_owes {P : ℝ} {Y : ℕ → ℝ} {y : FVec Ideal S512x1024 .f32} {p : FVec Ideal S1x1024 .f32} {d : Fin 1024}
    (h : Owes P Y 1 (column y d)) (hp : p (ix2 0 d) = ((P ^ 1 : ℝ) : EReal)) : Owes P Y 2 (column (shift1 y p) d) := by
  refine (h.double hp).congr fun r => ?_
  simp only [column, shifted]
  pointwise [shift1]
  rfl

/-- The rows plus a factor times the rows shifted by 2. -/
def shift2 (y : FVec Ideal S512x1024 .f32) (p : FVec Ideal S1x1024 .f32) : FVec Ideal S512x1024 .f32 :=
  addf y (mulf (broadcastTo S512x1024 p broadcasts_S1x1024_S512x1024)
    (concatenate S512x1024 0 [⟨S2x1024, broadcast S2x1024 (Scalar.ofBits .f32 0x00000000#32)⟩,
      ⟨S510x1024, extractStridedSlice S510x1024 ![0, 0] y slices_S512x1024_o0_0_S510x1024⟩] concatenates_S2x1024_S510x1024_S512x1024_d0))

theorem shift2_owes {P : ℝ} {Y : ℕ → ℝ} {y : FVec Ideal S512x1024 .f32} {p : FVec Ideal S1x1024 .f32} {d : Fin 1024}
    (h : Owes P Y 2 (column y d)) (hp : p (ix2 0 d) = ((P ^ 2 : ℝ) : EReal)) : Owes P Y 4 (column (shift2 y p) d) := by
  refine (h.double hp).congr fun r => ?_
  simp only [column, shifted]
  pointwise [shift2]
  rfl

/-- The rows plus a factor times the rows shifted by 4. -/
def shift4 (y : FVec Ideal S512x1024 .f32) (p : FVec Ideal S1x1024 .f32) : FVec Ideal S512x1024 .f32 :=
  addf y (mulf (broadcastTo S512x1024 p broadcasts_S1x1024_S512x1024)
    (concatenate S512x1024 0 [⟨S4x1024, broadcast S4x1024 (Scalar.ofBits .f32 0x00000000#32)⟩,
      ⟨S508x1024, extractStridedSlice S508x1024 ![0, 0] y slices_S512x1024_o0_0_S508x1024⟩] concatenates_S4x1024_S508x1024_S512x1024_d0))

theorem shift4_owes {P : ℝ} {Y : ℕ → ℝ} {y : FVec Ideal S512x1024 .f32} {p : FVec Ideal S1x1024 .f32} {d : Fin 1024}
    (h : Owes P Y 4 (column y d)) (hp : p (ix2 0 d) = ((P ^ 4 : ℝ) : EReal)) : Owes P Y 8 (column (shift4 y p) d) := by
  refine (h.double hp).congr fun r => ?_
  simp only [column, shifted]
  pointwise [shift4]
  rfl

/-- The rows plus a factor times the rows shifted by 8. -/
def shift8 (y : FVec Ideal S512x1024 .f32) (p : FVec Ideal S1x1024 .f32) : FVec Ideal S512x1024 .f32 :=
  addf y (mulf (broadcastTo S512x1024 p broadcasts_S1x1024_S512x1024)
    (concatenate S512x1024 0 [⟨S8x1024, broadcast S8x1024 (Scalar.ofBits .f32 0x00000000#32)⟩,
      ⟨S504x1024, extractStridedSlice S504x1024 ![0, 0] y slices_S512x1024_o0_0_S504x1024⟩] concatenates_S8x1024_S504x1024_S512x1024_d0))

theorem shift8_owes {P : ℝ} {Y : ℕ → ℝ} {y : FVec Ideal S512x1024 .f32} {p : FVec Ideal S1x1024 .f32} {d : Fin 1024}
    (h : Owes P Y 8 (column y d)) (hp : p (ix2 0 d) = ((P ^ 8 : ℝ) : EReal)) : Owes P Y 16 (column (shift8 y p) d) := by
  refine (h.double hp).congr fun r => ?_
  simp only [column, shifted]
  pointwise [shift8]
  rfl

/-- The rows plus a factor times the rows shifted by 16. -/
def shift16 (y : FVec Ideal S512x1024 .f32) (p : FVec Ideal S1x1024 .f32) : FVec Ideal S512x1024 .f32 :=
  addf y (mulf (broadcastTo S512x1024 p broadcasts_S1x1024_S512x1024)
    (concatenate S512x1024 0 [⟨S16x1024, broadcast S16x1024 (Scalar.ofBits .f32 0x00000000#32)⟩,
      ⟨S496x1024, extractStridedSlice S496x1024 ![0, 0] y slices_S512x1024_o0_0_S496x1024⟩] concatenates_S16x1024_S496x1024_S512x1024_d0))

theorem shift16_owes {P : ℝ} {Y : ℕ → ℝ} {y : FVec Ideal S512x1024 .f32} {p : FVec Ideal S1x1024 .f32} {d : Fin 1024}
    (h : Owes P Y 16 (column y d)) (hp : p (ix2 0 d) = ((P ^ 16 : ℝ) : EReal)) : Owes P Y 32 (column (shift16 y p) d) := by
  refine (h.double hp).congr fun r => ?_
  simp only [column, shifted]
  pointwise [shift16]
  rfl

/-- The rows plus a factor times the rows shifted by 32. -/
def shift32 (y : FVec Ideal S512x1024 .f32) (p : FVec Ideal S1x1024 .f32) : FVec Ideal S512x1024 .f32 :=
  addf y (mulf (broadcastTo S512x1024 p broadcasts_S1x1024_S512x1024)
    (concatenate S512x1024 0 [⟨S32x1024, broadcast S32x1024 (Scalar.ofBits .f32 0x00000000#32)⟩,
      ⟨S480x1024, extractStridedSlice S480x1024 ![0, 0] y slices_S512x1024_o0_0_S480x1024⟩] concatenates_S32x1024_S480x1024_S512x1024_d0))

theorem shift32_owes {P : ℝ} {Y : ℕ → ℝ} {y : FVec Ideal S512x1024 .f32} {p : FVec Ideal S1x1024 .f32} {d : Fin 1024}
    (h : Owes P Y 32 (column y d)) (hp : p (ix2 0 d) = ((P ^ 32 : ℝ) : EReal)) : Owes P Y 64 (column (shift32 y p) d) := by
  refine (h.double hp).congr fun r => ?_
  simp only [column, shifted]
  pointwise [shift32]
  rfl

/-- The rows plus a factor times the rows shifted by 64. -/
def shift64 (y : FVec Ideal S512x1024 .f32) (p : FVec Ideal S1x1024 .f32) : FVec Ideal S512x1024 .f32 :=
  addf y (mulf (broadcastTo S512x1024 p broadcasts_S1x1024_S512x1024)
    (concatenate S512x1024 0 [⟨S64x1024, broadcast S64x1024 (Scalar.ofBits .f32 0x00000000#32)⟩,
      ⟨S448x1024, extractStridedSlice S448x1024 ![0, 0] y slices_S512x1024_o0_0_S448x1024⟩] concatenates_S64x1024_S448x1024_S512x1024_d0))

theorem shift64_owes {P : ℝ} {Y : ℕ → ℝ} {y : FVec Ideal S512x1024 .f32} {p : FVec Ideal S1x1024 .f32} {d : Fin 1024}
    (h : Owes P Y 64 (column y d)) (hp : p (ix2 0 d) = ((P ^ 64 : ℝ) : EReal)) : Owes P Y 128 (column (shift64 y p) d) := by
  refine (h.double hp).congr fun r => ?_
  simp only [column, shifted]
  pointwise [shift64]
  rfl

/-- The rows plus a factor times the rows shifted by 128. -/
def shift128 (y : FVec Ideal S512x1024 .f32) (p : FVec Ideal S1x1024 .f32) : FVec Ideal S512x1024 .f32 :=
  addf y (mulf (broadcastTo S512x1024 p broadcasts_S1x1024_S512x1024)
    (concatenate S512x1024 0 [⟨S128x1024, broadcast S128x1024 (Scalar.ofBits .f32 0x00000000#32)⟩,
      ⟨S384x1024, extractStridedSlice S384x1024 ![0, 0] y slices_S512x1024_o0_0_S384x1024⟩] concatenates_S128x1024_S384x1024_S512x1024_d0))

theorem shift128_owes {P : ℝ} {Y : ℕ → ℝ} {y : FVec Ideal S512x1024 .f32} {p : FVec Ideal S1x1024 .f32} {d : Fin 1024}
    (h : Owes P Y 128 (column y d)) (hp : p (ix2 0 d) = ((P ^ 128 : ℝ) : EReal)) : Owes P Y 256 (column (shift128 y p) d) := by
  refine (h.double hp).congr fun r => ?_
  simp only [column, shifted]
  pointwise [shift128]
  rfl

/-- The rows plus a factor times the rows shifted by 256. -/
def shift256 (y : FVec Ideal S512x1024 .f32) (p : FVec Ideal S1x1024 .f32) : FVec Ideal S512x1024 .f32 :=
  addf y (mulf (broadcastTo S512x1024 p broadcasts_S1x1024_S512x1024)
    (concatenate S512x1024 0 [⟨S256x1024, broadcast S256x1024 (Scalar.ofBits .f32 0x00000000#32)⟩,
      ⟨S256x1024, extractStridedSlice S256x1024 ![0, 0] y slices_S512x1024_o0_0_S256x1024⟩] concatenates_S256x1024_S256x1024_S512x1024_d0))

theorem shift256_owes {P : ℝ} {Y : ℕ → ℝ} {y : FVec Ideal S512x1024 .f32} {p : FVec Ideal S1x1024 .f32} {d : Fin 1024}
    (h : Owes P Y 256 (column y d)) (hp : p (ix2 0 d) = ((P ^ 256 : ℝ) : EReal)) : Owes P Y 512 (column (shift256 y p) d) := by
  refine (h.double hp).congr fun r => ?_
  simp only [column, shifted]
  pointwise [shift256]
  rfl

/-- The drive with the carried row's share added to its first row. -/
def headed (x : Vec Ideal S1x512x1024 .f32) (a b n1 carry : Vec Ideal S1x1024 .f32) : FVec Ideal S512x1024 .f32 :=
  concatenate S512x1024 0 [⟨S8x1024, k0_pay6 x n1 b a carry⟩,
    ⟨S504x1024, extractStridedSlice S504x1024 ![8, 0] (k0_pay4 x n1 b) slices_S512x1024_o8_0_S504x1024⟩] concatenates_S8x1024_S504x1024_S512x1024_d0

/-- The rows of the block's scan. -/
def scanned (x : Vec Ideal S1x512x1024 .f32) (a b n1 carry : Vec Ideal S1x1024 .f32) : FVec Ideal S512x1024 .f32 :=
  k0_pay16 (scan7 x a b n1 carry) (power7 a) k0_pay15

theorem drive_apply (x : Vec Ideal S1x512x1024 .f32) (b n1 : Vec Ideal S1x1024 .f32) (r : Fin 512) (d : Fin 1024) :
    k0_pay4 x n1 b (ix2 r d) = drive (fun k => x (ix3 0 r k)) (fun k => n1 (ix2 0 k)) (fun k => b (ix2 0 k)) d := by
  pointwise [k0_pay4, k0_pay3]
  rfl

/-- The mask that picks the first of eight rows. -/
theorem select_first (r : Fin 8) (z : EReal) :
    Scalar.select (IntOp.cmpi CmpIPredicate.eq (BitVec.ofNat 32 r.val) 0#32) z 0 = if r.val = 0 then z else 0 := by
  fin_cases r <;> rfl

theorem headed_apply (x : Vec Ideal S1x512x1024 .f32) (a b n1 carry : Vec Ideal S1x1024 .f32) (r : Fin 512) (d : Fin 1024) :
    headed x a b n1 carry (ix2 r d) =
      drive (fun k => x (ix3 0 r k)) (fun k => n1 (ix2 0 k)) (fun k => b (ix2 0 k)) d
        + if r.val = 0 then Ideal.tanh (a (ix2 0 d)) * carry (ix2 0 d) else 0 := by
  rw [← drive_apply]
  pointwise [headed]
  by_cases h : r.val < 8
  · rw [dif_pos h]
    pointwise [k0_pay6, k0_pay5]
    rw [select_first ⟨r.val, h⟩]
  · have h0 : ¬ r.val = 0 := by omega
    rw [dif_neg h, if_neg h0, add_zero]
    congr 2
    exact Fin.ext (by show 8 + (r.val - 8) = r.val; omega)

theorem scan7_eq (x : Vec Ideal S1x512x1024 .f32) (a b n1 carry : Vec Ideal S1x1024 .f32) :
    scan7 x a b n1 carry = shift64 (shift32 (shift16 (shift8 (shift4 (shift2 (shift1 (headed x a b n1 carry) (k0_pay5 a))
      (k0_pay7 (k0_pay5 a))) (k0_pay8 (k0_pay5 a))) (k0_pay9 (k0_pay5 a))) (k0_pay10 (k0_pay5 a))) (k0_pay11 (k0_pay5 a)))
      (k0_pay12 (k0_pay5 a)) := rfl

theorem scanned_eq (x : Vec Ideal S1x512x1024 .f32) (a b n1 carry : Vec Ideal S1x1024 .f32) :
    scanned x a b n1 carry = shift256 (shift128 (scan7 x a b n1 carry) (power7 a)) (mulf (power7 a) (power7 a)) := rfl

/-- Squaring the factor doubles its exponent. -/
theorem square_apply {P : ℝ} {k l : ℕ} (hl : l = k + k) {p : FVec Ideal S1x1024 .f32} {d : Fin 1024}
    (hp : p (ix2 0 d) = ((P ^ k : ℝ) : EReal)) : mulf p p (ix2 0 d) = ((P ^ l : ℝ) : EReal) := by
  pointwise []
  rw [hp, ← EReal.coe_mul, hl, pow_add]

/-- THE BLOCK'S SCAN is the recurrence, taken up at the carried row. -/
theorem scanned_apply (x : Vec Ideal S1x512x1024 .f32) (a b n1 carry : Vec Ideal S1x1024 .f32) (d : Fin 1024) (P : ℝ) (u : ℕ → ℝ) (t₀ : ℕ)
    (hP : Ideal.tanh (a (ix2 0 d)) = (P : EReal))
    (hu : ∀ r : Fin 512, drive (fun k => x (ix3 0 r k)) (fun k => n1 (ix2 0 k)) (fun k => b (ix2 0 k)) d = ((u (t₀ + r) : ℝ) : EReal))
    (hc : carry (ix2 0 d) = ((carried P u t₀ : ℝ) : EReal)) (r : Fin 512) :
    scanned x a b n1 carry (ix2 r d) = ((carried P u (t₀ + r + 1) : ℝ) : EReal) := by
  have h0 : Owes P (fun r => carried P u (t₀ + r + 1)) 1 (column (headed x a b n1 carry) d) :=
    Owes.start P u t₀ _ fun r => by
      rw [column, headed_apply, hu, hP, hc]
      split_ifs
      · push_cast; rfl
      · push_cast; rfl
  have p0 : k0_pay5 a (ix2 0 d) = ((P ^ 1 : ℝ) : EReal) := by
    pointwise [k0_pay5]
    rw [hP, pow_one]
  have p1 : k0_pay7 (k0_pay5 a) (ix2 0 d) = ((P ^ 2 : ℝ) : EReal) := square_apply rfl p0
  have p2 : k0_pay8 (k0_pay5 a) (ix2 0 d) = ((P ^ 4 : ℝ) : EReal) := square_apply rfl p1
  have p3 : k0_pay9 (k0_pay5 a) (ix2 0 d) = ((P ^ 8 : ℝ) : EReal) := square_apply rfl p2
  have p4 : k0_pay10 (k0_pay5 a) (ix2 0 d) = ((P ^ 16 : ℝ) : EReal) := square_apply rfl p3
  have p5 : k0_pay11 (k0_pay5 a) (ix2 0 d) = ((P ^ 32 : ℝ) : EReal) := square_apply rfl p4
  have p6 : k0_pay12 (k0_pay5 a) (ix2 0 d) = ((P ^ 64 : ℝ) : EReal) := square_apply rfl p5
  have p7 : power7 a (ix2 0 d) = ((P ^ 128 : ℝ) : EReal) := square_apply rfl p6
  have p8 : mulf (power7 a) (power7 a) (ix2 0 d) = ((P ^ 256 : ℝ) : EReal) := square_apply rfl p7
  rw [scanned_eq, scan7_eq]
  exact (shift256_owes (shift128_owes (shift64_owes (shift32_owes (shift16_owes (shift8_owes (shift4_owes (shift2_owes
    (shift1_owes h0 p0) p1) p2) p3) p4) p5) p6) p7) p8).full r

/-- The row a block hands on is the recurrence's value after the block. -/
theorem lastRow_apply (x : Vec Ideal S1x512x1024 .f32) (a b n1 carry : Vec Ideal S1x1024 .f32) (d : Fin 1024) (P : ℝ) (u : ℕ → ℝ) (t₀ : ℕ)
    (hP : Ideal.tanh (a (ix2 0 d)) = (P : EReal))
    (hu : ∀ r : Fin 512, drive (fun k => x (ix3 0 r k)) (fun k => n1 (ix2 0 k)) (fun k => b (ix2 0 k)) d = ((u (t₀ + r) : ℝ) : EReal))
    (hc : carry (ix2 0 d) = ((carried P u t₀ : ℝ) : EReal)) :
    lastRow x a b n1 carry (ix2 0 d) = ((carried P u (t₀ + 512) : ℝ) : EReal) := by
  refine Eq.trans ?_ (scanned_apply x a b n1 carry d P u t₀ hP hu hc (511 : Fin 512))
  pointwise [lastRow, k0_pay17, scanned]

/-- The zero row the first point starts from. -/
theorem zeroRow_apply (d : Fin 1024) : (k0_pay2 : FVec Ideal S1x1024 .f32) (ix2 0 d) = 0 := by
  pointwise [k0_pay2]

/-- The stream after the recurrence's part, at a row. -/
theorem stream_apply (x : Vec Ideal S1x512x1024 .f32) (a b : Vec Ideal S1x1024 .f32) (ow : Vec Ideal S1024x1024 .bf16)
    (ob n1 carry : Vec Ideal S1x1024 .f32) (r : Fin 512) (d : Fin 1024) :
    stream x a b ow ob n1 carry (ix2 r d) =
      added (fun k => x (ix3 0 r k)) (fun k => scanned x a b n1 carry (ix2 r k)) (fun d k => ow (ix2 d k)) (fun d => ob (ix2 0 d)) d := by
  rw [added, ← add_assoc]
  unfold scanned
  pointwise [stream, k0_pay18, k0_pay3]

/-- The normalised stream, at a row. -/
theorem normed_apply (x : Vec Ideal S1x512x1024 .f32) (a b : Vec Ideal S1x1024 .f32) (ow : Vec Ideal S1024x1024 .bf16)
    (ob n1 n2 carry : Vec Ideal S1x1024 .f32) (r : Fin 512) (d : Fin 1024) :
    k0_pay19 (k0_pay3 x) (scan7 x a b n1 carry) (power7 a) k0_pay15 ow ob n2 (ix2 r d) =
      normed (fun k => stream x a b ow ob n1 carry (ix2 r k)) (fun k => n2 (ix2 0 k)) d := by
  unfold normed meanSq stream
  pointwise [k0_pay19]

/-- THE OUTPUT BLOCK at a row. -/
theorem outBlock_apply (x : Vec Ideal S1x512x1024 .f32) (a b : Vec Ideal S1x1024 .f32) (ow : Vec Ideal S1024x1024 .bf16)
    (ob n1 n2 : Vec Ideal S1x1024 .f32) (w1 w2 : Vec Ideal S4096x1024 .bf16) (w3 : Vec Ideal S1024x4096 .bf16)
    (b1 b2 : Vec Ideal S1x4096 .f32) (b3 carry : Vec Ideal S1x1024 .f32) (r : Fin 512) (d : Fin 1024) :
    outBlock x a b ow ob n1 n2 w1 w2 w3 b1 b2 b3 carry (ix3 0 r d) =
      layerRow (added (fun k => x (ix3 0 r k)) (fun k => scanned x a b n1 carry (ix2 r k)) (fun d k => ow (ix2 d k)) (fun d => ob (ix2 0 d)))
        (fun k => n2 (ix2 0 k)) (fun h k => w1 (ix2 h k)) (fun h => b1 (ix2 0 h)) (fun h k => w2 (ix2 h k)) (fun h => b2 (ix2 0 h))
        (fun d h => w3 (ix2 d h)) (fun d => b3 (ix2 0 d)) d := by
  have hs : (fun k => stream x a b ow ob n1 carry (ix2 r k)) =
      added (fun k => x (ix3 0 r k)) (fun k => scanned x a b n1 carry (ix2 r k)) (fun d k => ow (ix2 d k)) (fun d => ob (ix2 0 d)) :=
    funext fun k => stream_apply x a b ow ob n1 carry r k
  rw [← hs, layerRow, ← add_assoc]
  unfold gated wide
  simp only [← normed_apply]
  pointwise [outBlock, k0_pay1, k0_pay20]

end Cert.Block

end
-- ==== Proof.Layer.lean ====
/-
  The layer as a function of its arguments' entries: per batch row and channel the factor and the driving sequence of the
  recurrence, and the row the layer leaves at a time.
-/
module

public import proofs.«01_k».proof.Proof.Scan
public import proofs.«01_k».proof.Proof.Model

@[expose] public section

noncomputable section

namespace Cert.Block

open Idealize.ShloMosaic
open scoped BigOperators

/-- The recurrence's factor at a channel. -/
def factor (a : Fin 1024 → EReal) (d : Fin 1024) : ℝ := (Ideal.tanh (a d)).toReal

/-- The recurrence's driving sequence at a channel, over the rows `x` of one batch. -/
def driving (x : Fin 4096 → Fin 1024 → EReal) (n1 b : Fin 1024 → EReal) (d : Fin 1024) (t : ℕ) : ℝ :=
  if h : t < 4096 then (drive (x ⟨t, h⟩) n1 b d).toReal else 0

/-- The recurrence's row once `t` rows are consumed. -/
def stateRow (x : Fin 4096 → Fin 1024 → EReal) (a b n1 : Fin 1024 → EReal) (t : ℕ) (d : Fin 1024) : EReal :=
  ((carried (factor a d) (driving x n1 b d) t : ℝ) : EReal)

/-- The layer's row at time `t`, over the rows `x` of one batch. -/
def layer (x : Fin 4096 → Fin 1024 → EReal) (a b : Fin 1024 → EReal) (ow : Fin 1024 → Fin 1024 → EReal)
    (ob n1 n2 : Fin 1024 → EReal) (w1 : Fin 4096 → Fin 1024 → EReal) (b1 : Fin 4096 → EReal)
    (w2 : Fin 4096 → Fin 1024 → EReal) (b2 : Fin 4096 → EReal) (w3 : Fin 1024 → Fin 4096 → EReal) (b3 : Fin 1024 → EReal)
    (t : Fin 4096) (d : Fin 1024) : EReal :=
  layerRow (added (x t) (stateRow x a b n1 (t + 1)) ow ob) n2 w1 b1 w2 b2 w3 b3 d

theorem coe_factor (a : Fin 1024 → EReal) (d : Fin 1024) : Ideal.tanh (a d) = (factor a d : EReal) :=
  (isReal_tanh (a d)).coe_toReal.symm

theorem coe_driving (x : Fin 4096 → Fin 1024 → EReal) {n1 b : Fin 1024 → EReal} {d : Fin 1024} (hn : IsReal (n1 d))
    (hb : IsReal (b d)) (t : Fin 4096) : drive (x t) n1 b d = (driving x n1 b d t : EReal) := by
  rw [driving, dif_pos t.isLt, (isReal_drive (x t) hn hb).coe_toReal]

theorem stateRow_zero (x : Fin 4096 → Fin 1024 → EReal) (a b n1 : Fin 1024 → EReal) (d : Fin 1024) :
    stateRow x a b n1 0 d = 0 := rfl

/-- One step of the recurrence. -/
theorem stateRow_succ (x : Fin 4096 → Fin 1024 → EReal) (a : Fin 1024 → EReal) {b n1 : Fin 1024 → EReal} {d : Fin 1024}
    (hn : IsReal (n1 d)) (hb : IsReal (b d)) (t : Fin 4096) :
    stateRow x a b n1 (t + 1) d = Ideal.tanh (a d) * stateRow x a b n1 t d + drive (x t) n1 b d := by
  rw [coe_factor, coe_driving x hn hb t, stateRow, stateRow, carried, EReal.coe_add, EReal.coe_mul]

end Cert.Block

end
-- ==== Proof.Windows.lean ====
/-
  The blocks a grid point's windows hold, at an index: entries of the arguments. The first window's block at point `t` is
  batch row `t / 8`, rows `512 (t % 8)` on; every other window holds one whole argument.
-/
module

public import proofs.«01_k».proof.Proof.Gen.KernelIdeal.Value
public import Idealize.ShloMosaic.Lib.Pointwise
public import Idealize.ShloMosaic.Lib.StableHlo.ReadAt

@[expose] public section

set_option maxRecDepth 16384

noncomputable section

namespace Cert.Block

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem points (t : Fin cfg0.N) : t.val < 32 := lt_of_lt_of_eq t.isLt (show cfg0.N = 32 from N_0)

/-- The batch row of a point, -/
def batchOf (t : Fin cfg0.N) : Fin 4 := ⟨t.val / 8, by have := points t; omega⟩

/-- and the time of one of its block's rows. -/
def timeOf (t : Fin cfg0.N) (r : Fin 512) : Fin 4096 := ⟨512 * (t.val % 8) + r.val, by omega⟩

/-- The rows of the stream. -/
def blkX : Vec Ideal S1x512x1024 .f32 := iblk m c 0 t

theorem place0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

theorem blkX_apply (r : Fin 512) (d : Fin 1024) :
    blkX m c t (ix3 0 r d) = m ((c : Thread nD τ).loc main_arg0) (ix3 (batchOf t) (timeOf t r) d) := by
  obtain ⟨e0, e1, e2⟩ := place0 t
  show V m c main_arg0 (((cfg0.win 0).blk t).view.emb (ix3 0 r d)) = _
  rw [V_main_arg0]
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * d.val = d.val; omega

/-- Window 1. -/
def blk1 : Vec Ideal S1x1024 .f32 := iblk m c 1 t

theorem place1 : ∀ t : Fin cfg0.N, win0_1.index t (0 : Fin 2) = 0 ∧ win0_1.index t (1 : Fin 2) = 0 :=
  (by decide +kernel : ∀ t : Fin grid0.N, _)

theorem blk1_apply (d : Fin 1024) : blk1 m c t (ix2 0 d) = m ((c : Thread nD τ).loc main_arg1) (ix1 d) := by
  obtain ⟨e0, e1⟩ := place1 t
  have hV : V m c main_v4 (ix2 0 d) = m ((c : Thread nD τ).loc main_arg1) (ix1 d) := by
    unfold V
    after_reads_at
  refine Eq.trans (congrArg (V m c main_v4) (?_ : ((cfg0.win 1).blk t).view.emb (ix2 0 d) = ix2 0 d)) hV
  funext a
  apply Fin.ext
  match a with
  | ⟨0, _⟩ => show win0_1.index t (0 : Fin 2) * 1 + 1 * 0 = 0; omega
  | ⟨1, _⟩ => show win0_1.index t (1 : Fin 2) * 1024 + 1 * d.val = d.val; omega

/-- Window 2. -/
def blk2 : Vec Ideal S1x1024 .f32 := iblk m c 2 t

theorem place2 : ∀ t : Fin cfg0.N, win0_2.index t (0 : Fin 2) = 0 ∧ win0_2.index t (1 : Fin 2) = 0 :=
  (by decide +kernel : ∀ t : Fin grid0.N, _)

theorem blk2_apply (d : Fin 1024) : blk2 m c t (ix2 0 d) = m ((c : Thread nD τ).loc main_arg2) (ix1 d) := by
  obtain ⟨e0, e1⟩ := place2 t
  have hV : V m c main_v5 (ix2 0 d) = m ((c : Thread nD τ).loc main_arg2) (ix1 d) := by
    unfold V
    after_reads_at
  refine Eq.trans (congrArg (V m c main_v5) (?_ : ((cfg0.win 2).blk t).view.emb (ix2 0 d) = ix2 0 d)) hV
  funext a
  apply Fin.ext
  match a with
  | ⟨0, _⟩ => show win0_2.index t (0 : Fin 2) * 1 + 1 * 0 = 0; omega
  | ⟨1, _⟩ => show win0_2.index t (1 : Fin 2) * 1024 + 1 * d.val = d.val; omega

/-- Window 3. -/
def blk3 : Vec Ideal S1024x1024 .bf16 := iblk m c 3 t

theorem place3 : ∀ t : Fin cfg0.N, win0_3.index t (0 : Fin 2) = 0 ∧ win0_3.index t (1 : Fin 2) = 0 :=
  (by decide +kernel : ∀ t : Fin grid0.N, _)

theorem blk3_apply (d : Fin 1024) (k : Fin 1024) : blk3 m c t (ix2 d k) = m ((c : Thread nD τ).loc main_arg3) (ix2 d k) := by
  obtain ⟨e0, e1⟩ := place3 t
  have hV : V m c main_v0 (ix2 d k) = m ((c : Thread nD τ).loc main_arg3) (ix2 d k) := by
    unfold V
    after_reads_at
  refine Eq.trans (congrArg (V m c main_v0) (?_ : ((cfg0.win 3).blk t).view.emb (ix2 d k) = ix2 d k)) hV
  funext a
  apply Fin.ext
  match a with
  | ⟨0, _⟩ => show win0_3.index t (0 : Fin 2) * 1024 + 1 * d.val = d.val; omega
  | ⟨1, _⟩ => show win0_3.index t (1 : Fin 2) * 1024 + 1 * k.val = k.val; omega

/-- Window 4. -/
def blk4 : Vec Ideal S1x1024 .f32 := iblk m c 4 t

theorem place4 : ∀ t : Fin cfg0.N, win0_4.index t (0 : Fin 2) = 0 ∧ win0_4.index t (1 : Fin 2) = 0 :=
  (by decide +kernel : ∀ t : Fin grid0.N, _)

theorem blk4_apply (d : Fin 1024) : blk4 m c t (ix2 0 d) = m ((c : Thread nD τ).loc main_arg4) (ix1 d) := by
  obtain ⟨e0, e1⟩ := place4 t
  have hV : V m c main_v6 (ix2 0 d) = m ((c : Thread nD τ).loc main_arg4) (ix1 d) := by
    unfold V
    after_reads_at
  refine Eq.trans (congrArg (V m c main_v6) (?_ : ((cfg0.win 4).blk t).view.emb (ix2 0 d) = ix2 0 d)) hV
  funext a
  apply Fin.ext
  match a with
  | ⟨0, _⟩ => show win0_4.index t (0 : Fin 2) * 1 + 1 * 0 = 0; omega
  | ⟨1, _⟩ => show win0_4.index t (1 : Fin 2) * 1024 + 1 * d.val = d.val; omega

/-- Window 5. -/
def blk5 : Vec Ideal S1x1024 .f32 := iblk m c 5 t

theorem place5 : ∀ t : Fin cfg0.N, win0_5.index t (0 : Fin 2) = 0 ∧ win0_5.index t (1 : Fin 2) = 0 :=
  (by decide +kernel : ∀ t : Fin grid0.N, _)

theorem blk5_apply (d : Fin 1024) : blk5 m c t (ix2 0 d) = m ((c : Thread nD τ).loc main_arg5) (ix1 d) := by
  obtain ⟨e0, e1⟩ := place5 t
  have hV : V m c main_v7 (ix2 0 d) = m ((c : Thread nD τ).loc main_arg5) (ix1 d) := by
    unfold V
    after_reads_at
  refine Eq.trans (congrArg (V m c main_v7) (?_ : ((cfg0.win 5).blk t).view.emb (ix2 0 d) = ix2 0 d)) hV
  funext a
  apply Fin.ext
  match a with
  | ⟨0, _⟩ => show win0_5.index t (0 : Fin 2) * 1 + 1 * 0 = 0; omega
  | ⟨1, _⟩ => show win0_5.index t (1 : Fin 2) * 1024 + 1 * d.val = d.val; omega

/-- Window 6. -/
def blk6 : Vec Ideal S1x1024 .f32 := iblk m c 6 t

theorem place6 : ∀ t : Fin cfg0.N, win0_6.index t (0 : Fin 2) = 0 ∧ win0_6.index t (1 : Fin 2) = 0 :=
  (by decide +kernel : ∀ t : Fin grid0.N, _)

theorem blk6_apply (d : Fin 1024) : blk6 m c t (ix2 0 d) = m ((c : Thread nD τ).loc main_arg6) (ix1 d) := by
  obtain ⟨e0, e1⟩ := place6 t
  have hV : V m c main_v8 (ix2 0 d) = m ((c : Thread nD τ).loc main_arg6) (ix1 d) := by
    unfold V
    after_reads_at
  refine Eq.trans (congrArg (V m c main_v8) (?_ : ((cfg0.win 6).blk t).view.emb (ix2 0 d) = ix2 0 d)) hV
  funext a
  apply Fin.ext
  match a with
  | ⟨0, _⟩ => show win0_6.index t (0 : Fin 2) * 1 + 1 * 0 = 0; omega
  | ⟨1, _⟩ => show win0_6.index t (1 : Fin 2) * 1024 + 1 * d.val = d.val; omega

/-- Window 7. -/
def blk7 : Vec Ideal S4096x1024 .bf16 := iblk m c 7 t

theorem place7 : ∀ t : Fin cfg0.N, win0_7.index t (0 : Fin 2) = 0 ∧ win0_7.index t (1 : Fin 2) = 0 :=
  (by decide +kernel : ∀ t : Fin grid0.N, _)

theorem blk7_apply (d : Fin 4096) (k : Fin 1024) : blk7 m c t (ix2 d k) = m ((c : Thread nD τ).loc main_arg7) (ix2 d k) := by
  obtain ⟨e0, e1⟩ := place7 t
  have hV : V m c main_v1 (ix2 d k) = m ((c : Thread nD τ).loc main_arg7) (ix2 d k) := by
    unfold V
    after_reads_at
  refine Eq.trans (congrArg (V m c main_v1) (?_ : ((cfg0.win 7).blk t).view.emb (ix2 d k) = ix2 d k)) hV
  funext a
  apply Fin.ext
  match a with
  | ⟨0, _⟩ => show win0_7.index t (0 : Fin 2) * 4096 + 1 * d.val = d.val; omega
  | ⟨1, _⟩ => show win0_7.index t (1 : Fin 2) * 1024 + 1 * k.val = k.val; omega

/-- Window 8. -/
def blk8 : Vec Ideal S4096x1024 .bf16 := iblk m c 8 t

theorem place8 : ∀ t : Fin cfg0.N, win0_8.index t (0 : Fin 2) = 0 ∧ win0_8.index t (1 : Fin 2) = 0 :=
  (by decide +kernel : ∀ t : Fin grid0.N, _)

theorem blk8_apply (d : Fin 4096) (k : Fin 1024) : blk8 m c t (ix2 d k) = m ((c : Thread nD τ).loc main_arg9) (ix2 d k) := by
  obtain ⟨e0, e1⟩ := place8 t
  have hV : V m c main_v2 (ix2 d k) = m ((c : Thread nD τ).loc main_arg9) (ix2 d k) := by
    unfold V
    after_reads_at
  refine Eq.trans (congrArg (V m c main_v2) (?_ : ((cfg0.win 8).blk t).view.emb (ix2 d k) = ix2 d k)) hV
  funext a
  apply Fin.ext
  match a with
  | ⟨0, _⟩ => show win0_8.index t (0 : Fin 2) * 4096 + 1 * d.val = d.val; omega
  | ⟨1, _⟩ => show win0_8.index t (1 : Fin 2) * 1024 + 1 * k.val = k.val; omega

/-- Window 9. -/
def blk9 : Vec Ideal S1024x4096 .bf16 := iblk m c 9 t

theorem place9 : ∀ t : Fin cfg0.N, win0_9.index t (0 : Fin 2) = 0 ∧ win0_9.index t (1 : Fin 2) = 0 :=
  (by decide +kernel : ∀ t : Fin grid0.N, _)

theorem blk9_apply (d : Fin 1024) (k : Fin 4096) : blk9 m c t (ix2 d k) = m ((c : Thread nD τ).loc main_arg11) (ix2 d k) := by
  obtain ⟨e0, e1⟩ := place9 t
  have hV : V m c main_v3 (ix2 d k) = m ((c : Thread nD τ).loc main_arg11) (ix2 d k) := by
    unfold V
    after_reads_at
  refine Eq.trans (congrArg (V m c main_v3) (?_ : ((cfg0.win 9).blk t).view.emb (ix2 d k) = ix2 d k)) hV
  funext a
  apply Fin.ext
  match a with
  | ⟨0, _⟩ => show win0_9.index t (0 : Fin 2) * 1024 + 1 * d.val = d.val; omega
  | ⟨1, _⟩ => show win0_9.index t (1 : Fin 2) * 4096 + 1 * k.val = k.val; omega

/-- Window 10. -/
def blk10 : Vec Ideal S1x4096 .f32 := iblk m c 10 t

theorem place10 : ∀ t : Fin cfg0.N, win0_10.index t (0 : Fin 2) = 0 ∧ win0_10.index t (1 : Fin 2) = 0 :=
  (by decide +kernel : ∀ t : Fin grid0.N, _)

theorem blk10_apply (d : Fin 4096) : blk10 m c t (ix2 0 d) = m ((c : Thread nD τ).loc main_arg8) (ix1 d) := by
  obtain ⟨e0, e1⟩ := place10 t
  have hV : V m c main_v9 (ix2 0 d) = m ((c : Thread nD τ).loc main_arg8) (ix1 d) := by
    unfold V
    after_reads_at
  refine Eq.trans (congrArg (V m c main_v9) (?_ : ((cfg0.win 10).blk t).view.emb (ix2 0 d) = ix2 0 d)) hV
  funext a
  apply Fin.ext
  match a with
  | ⟨0, _⟩ => show win0_10.index t (0 : Fin 2) * 1 + 1 * 0 = 0; omega
  | ⟨1, _⟩ => show win0_10.index t (1 : Fin 2) * 4096 + 1 * d.val = d.val; omega

/-- Window 11. -/
def blk11 : Vec Ideal S1x4096 .f32 := iblk m c 11 t

theorem place11 : ∀ t : Fin cfg0.N, win0_11.index t (0 : Fin 2) = 0 ∧ win0_11.index t (1 : Fin 2) = 0 :=
  (by decide +kernel : ∀ t : Fin grid0.N, _)

theorem blk11_apply (d : Fin 4096) : blk11 m c t (ix2 0 d) = m ((c : Thread nD τ).loc main_arg10) (ix1 d) := by
  obtain ⟨e0, e1⟩ := place11 t
  have hV : V m c main_v10 (ix2 0 d) = m ((c : Thread nD τ).loc main_arg10) (ix1 d) := by
    unfold V
    after_reads_at
  refine Eq.trans (congrArg (V m c main_v10) (?_ : ((cfg0.win 11).blk t).view.emb (ix2 0 d) = ix2 0 d)) hV
  funext a
  apply Fin.ext
  match a with
  | ⟨0, _⟩ => show win0_11.index t (0 : Fin 2) * 1 + 1 * 0 = 0; omega
  | ⟨1, _⟩ => show win0_11.index t (1 : Fin 2) * 4096 + 1 * d.val = d.val; omega

/-- Window 12. -/
def blk12 : Vec Ideal S1x1024 .f32 := iblk m c 12 t

theorem place12 : ∀ t : Fin cfg0.N, win0_12.index t (0 : Fin 2) = 0 ∧ win0_12.index t (1 : Fin 2) = 0 :=
  (by decide +kernel : ∀ t : Fin grid0.N, _)

theorem blk12_apply (d : Fin 1024) : blk12 m c t (ix2 0 d) = m ((c : Thread nD τ).loc main_arg12) (ix1 d) := by
  obtain ⟨e0, e1⟩ := place12 t
  have hV : V m c main_v11 (ix2 0 d) = m ((c : Thread nD τ).loc main_arg12) (ix1 d) := by
    unfold V
    after_reads_at
  refine Eq.trans (congrArg (V m c main_v11) (?_ : ((cfg0.win 12).blk t).view.emb (ix2 0 d) = ix2 0 d)) hV
  funext a
  apply Fin.ext
  match a with
  | ⟨0, _⟩ => show win0_12.index t (0 : Fin 2) * 1 + 1 * 0 = 0; omega
  | ⟨1, _⟩ => show win0_12.index t (1 : Fin 2) * 1024 + 1 * d.val = d.val; omega

end Cert.Block

end
-- ==== Proof.ArrayValue.lean ====
/-
  What the kernel's array holds: the carried row after a point is the recurrence's row at the point's last time, and the
  block a point writes is the layer's rows at its times.
-/
module

public import proofs.«01_k».proof.Proof.BlockScan
public import proofs.«01_k».proof.Proof.Layer
public import proofs.«01_k».proof.Proof.Windows

@[expose] public section

set_option maxRecDepth 16384

noncomputable section

namespace Cert.Block

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The rows of a batch, and the arguments the recurrence reads. -/
def argX (b : Fin 4) (t : Fin 4096) (k : Fin 1024) : EReal := m ((c : Thread nD τ).loc main_arg0) (ix3 b t k)
def argA (k : Fin 1024) : EReal := m ((c : Thread nD τ).loc main_arg1) (ix1 k)
def argB (k : Fin 1024) : EReal := m ((c : Thread nD τ).loc main_arg2) (ix1 k)
def argN (k : Fin 1024) : EReal := m ((c : Thread nD τ).loc main_arg5) (ix1 k)

/-- The layer's row over the arguments. -/
def layerOf (b : Fin 4) (t : Fin 4096) (d : Fin 1024) : EReal :=
  layer (argX m c b) (argA m c) (argB m c) (fun d k => m ((c : Thread nD τ).loc main_arg3) (ix2 d k))
    (fun d => m ((c : Thread nD τ).loc main_arg4) (ix1 d)) (argN m c) (fun d => m ((c : Thread nD τ).loc main_arg6) (ix1 d))
    (fun h k => m ((c : Thread nD τ).loc main_arg7) (ix2 h k)) (fun h => m ((c : Thread nD τ).loc main_arg8) (ix1 h))
    (fun h k => m ((c : Thread nD τ).loc main_arg9) (ix2 h k)) (fun h => m ((c : Thread nD τ).loc main_arg10) (ix1 h))
    (fun d h => m ((c : Thread nD τ).loc main_arg11) (ix2 d h)) (fun d => m ((c : Thread nD τ).loc main_arg12) (ix1 d)) t d

/-- The row a point starts from. -/
def entering (t : Fin cfg0.N) : Vec Ideal S1x1024 .f32 :=
  if t.val % 8 = 0 then (k0_pay2 : FVec Ideal S1x1024 .f32) else (outsAt0 m c (t.val - 1) (Nat.lt_of_le_of_lt (Nat.sub_le _ _) t.isLt)).2

theorem carried_row (t : Fin cfg0.N) :
    (outsAt0 m c t.val t.isLt).2 = lastRow (blkX m c t) (blk1 m c t) (blk2 m c t) (blk5 m c t) (entering m c t) := by
  by_cases h0 : t.val % 8 = 0
  · rw [entering, if_pos h0, outsAt0_A m c t h0]
    dsimp only
    rw [sout_A]
    rfl
  · rw [entering, if_neg h0, outsAt0_B m c t h0]
    dsimp only
    rw [sout_B]
    rfl

theorem written_block (t : Fin cfg0.N) :
    (outsAt0 m c t.val t.isLt).1 = outBlock (blkX m c t) (blk1 m c t) (blk2 m c t) (blk3 m c t) (blk4 m c t) (blk5 m c t)
      (blk6 m c t) (blk7 m c t) (blk8 m c t) (blk9 m c t) (blk10 m c t) (blk11 m c t) (blk12 m c t) (entering m c t) := by
  by_cases h0 : t.val % 8 = 0
  · rw [entering, if_pos h0, outsAt0_A m c t h0]
    dsimp only
    rw [out_A]
    rfl
  · rw [entering, if_neg h0, outsAt0_B m c t h0]
    dsimp only
    rw [out_B]
    rfl

section finite

variable (hb : ∀ d, IsReal (argB m c d)) (hn : ∀ d, IsReal (argN m c d))
include hb hn

/-- The factor and the drive a point's block scan takes. -/
theorem point_factor (t : Fin cfg0.N) (d : Fin 1024) : Ideal.tanh (blk1 m c t (ix2 0 d)) = (factor (argA m c) d : EReal) := by
  rw [blk1_apply, ← coe_factor]; rfl

theorem point_drive (t : Fin cfg0.N) (d : Fin 1024) (r : Fin 512) :
    drive (fun k => blkX m c t (ix3 0 r k)) (fun k => blk5 m c t (ix2 0 k)) (fun k => blk2 m c t (ix2 0 k)) d
      = ((driving (argX m c (batchOf t)) (argN m c) (argB m c) d (512 * (t.val % 8) + r) : ℝ) : EReal) := by
  simp only [blkX_apply, blk5_apply, blk2_apply]
  exact coe_driving (argX m c (batchOf t)) (hn d) (hb d) (timeOf t r)

/-- THE ROW A POINT STARTS FROM is the recurrence's row at the block's first time. -/
theorem entering_apply : ∀ (n : ℕ) (hN : n < cfg0.N) (d : Fin 1024),
    entering m c ⟨n, hN⟩ (ix2 0 d) =
      stateRow (argX m c (batchOf ⟨n, hN⟩)) (argA m c) (argB m c) (argN m c) (512 * (n % 8)) d := by
  intro n
  induction n with
  | zero =>
    intro hN d
    rw [entering, if_pos (Nat.zero_mod 8)]
    exact zeroRow_apply d
  | succ n ih =>
    intro hN d
    by_cases h0 : (n + 1) % 8 = 0
    · rw [entering, if_pos h0, h0]
      exact zeroRow_apply d
    · have hn' : n < cfg0.N := Nat.lt_of_succ_lt hN
      have hbatch : batchOf ⟨n + 1, hN⟩ = batchOf ⟨n, hn'⟩ := Fin.ext (by show (n + 1) / 8 = n / 8; omega)
      have htime : 512 * ((n + 1) % 8) = 512 * (n % 8) + 512 := by omega
      rw [entering, if_neg h0, hbatch, htime]
      show (outsAt0 m c n hn').2 (ix2 0 d) = _
      rw [carried_row m c ⟨n, hn'⟩]
      exact lastRow_apply _ _ _ _ _ d _ _ _ (point_factor m c hb hn _ d) (point_drive m c hb hn ⟨n, hn'⟩ d) (ih hn' d)

/-- WHAT A POINT WRITES is the layer's rows at its times. -/
theorem written_apply (t : Fin cfg0.N) (r : Fin 512) (d : Fin 1024) :
    (outsAt0 m c t.val t.isLt).1 (ix3 0 r d) = layerOf m c (batchOf t) (timeOf t r) d := by
  have hs : ∀ k, scanned (blkX m c t) (blk1 m c t) (blk2 m c t) (blk5 m c t) (entering m c t) (ix2 r k) =
      stateRow (argX m c (batchOf t)) (argA m c) (argB m c) (argN m c) (timeOf t r + 1) k := fun k =>
    scanned_apply _ _ _ _ _ k _ _ _ (point_factor m c hb hn t k) (point_drive m c hb hn t k) (entering_apply m c hb hn t.val t.isLt k) r
  rw [written_block, outBlock_apply]
  simp only [hs, blkX_apply, blk3_apply, blk4_apply, blk6_apply, blk7_apply, blk8_apply, blk9_apply, blk10_apply, blk11_apply,
    blk12_apply]
  rfl

/-- THE KERNEL'S ARRAY holds the layer. -/
theorem array_apply (b : Fin 4) (t : Fin 4096) (d : Fin 1024) :
    Cert.KernelIdeal.Value.G13 m c (ix3 b t d) = layerOf m c b t d := by
  have hp : Cert.KernelIdeal.Value.pt13Of (ix3 b t d) = 8 * b.val + t.val / 512 := by
    show 8 * (b.val / 1 - 0) + 1 * (t.val / 512 - 0) + 1 * (d.val / 1024 - 0) = _
    omega
  have hlt : Cert.KernelIdeal.Value.pt13Of (ix3 b t d) < cfg0.N := by
    rw [hp, show cfg0.N = 32 from N_0]; omega
  have hl : Cert.KernelIdeal.Value.loc13Of (ix3 b t d) = ix3 0 ⟨t.val % 512, Nat.mod_lt _ (by decide)⟩ d := by
    funext a
    apply Fin.ext
    match a with
    | ⟨0, _⟩ => show b.val % 1 = 0; omega
    | ⟨1, _⟩ => rfl
    | ⟨2, _⟩ => show d.val % 1024 = d.val; omega
  rw [Cert.KernelIdeal.Value.G13, dif_pos hlt, ← Cert.KernelIdeal.Value.outsAt0_sweep m c _ hlt, hl]
  refine (written_apply m c hb hn ⟨_, hlt⟩ _ d).trans ?_
  have h1 : batchOf ⟨_, hlt⟩ = b := Fin.ext (by show Cert.KernelIdeal.Value.pt13Of (ix3 b t d) / 8 = b.val; omega)
  have h2 : timeOf ⟨_, hlt⟩ ⟨t.val % 512, Nat.mod_lt _ (by decide)⟩ = t :=
    Fin.ext (by show 512 * (Cert.KernelIdeal.Value.pt13Of (ix3 b t d) % 8) + t.val % 512 = t.val; omega)
  rw [h1, h2]

end finite

end Cert.Block

end
-- ==== Proof.RefLoop.lean ====
/-
  The reference's loop: one trip as functions of the carried buffers, what the operations before the loop leave, and by
  induction on the trips the recurrence's row and the rows kept so far.
-/
module

public import proofs.«01_k».proof.Proof.Layer
public import proofs.«01_k».proof.Proof.Gen.ReferenceIdeal.Run
public import proofs.«01_k».proof.Proof.Gen.ReferenceIdeal.Step
public import Idealize.ShloMosaic.Lib.Pointwise
public import Idealize.ShloMosaic.Lib.StableHlo.ReadAt

@[expose] public section

set_option maxRecDepth 16384

noncomputable section

namespace Cert.Block

open Idealize.ShloMosaic Idealize.ShloMosaic.TcCoe Idealize.SL.Sem Idealize.ShloMosaic.StableHlo
open Cert.ReferenceIdeal Cert.ReferenceIdeal.Gen Cert.ReferenceIdeal.Value
open scoped BigOperators

/-- Where trip `j` reads and writes, -/
def tripAt (j : ℕ) : Fin 3 → Int := fun k =>
  (((![constantI S_ 32 (BitVec.ofNat 32 j), constantI S_ 32 0#32, constantI S_ 32 0#32] : Fin 3 → (⟨S_, .i32⟩ : BufTy).Contents (Elt Ideal))) k (Shape.Idx.first h_S_)).toInt

/-- the recurrence's next row, -/
def nextRow (p : FVec Ideal S1024 .f32) (y : FVec Ideal S4x1024 .f32) (w : FVec Ideal S4096x4x1024 .f32) (j : ℕ) : FVec Ideal S4x1024 .f32 :=
  addf (mulf (broadcastInDim S4x1024 ![0, 1] bcast_S1x1024_S4x1024_0_1 (broadcastInDim S1x1024 ![1] bcast_S1024_S1x1024_1 p)) y)
    (shapeCast S4x1024 (Host.dynamicSlice S1x4x1024 w (tripAt j) sliceFits_S4096x4x1024_S1x4x1024) shapeCasts_S1x4x1024_S4x1024)

/-- and the rows kept so far with that row put in. -/
def withRow (ys : FVec Ideal S4096x4x1024 .f32) (y : FVec Ideal S4x1024 .f32) (j : ℕ) : FVec Ideal S4096x4x1024 .f32 :=
  Host.dynamicUpdateSlice ys (broadcastInDim S1x4x1024 ![1, 2] bcast_S4x1024_S1x4x1024_1_2 y) (tripAt j) updateFits_S4096x4x1024_S1x4x1024

theorem tripAt_eq (j : Fin 4096) : tripAt j = ![(j.val : Int), 0, 0] := by
  funext k
  match k with
  | ⟨0, _⟩ =>
    show (BitVec.ofNat 32 j.val).toInt = (j.val : Int)
    rw [BitVec.toInt_eq_toNat_of_lt (by rw [BitVec.toNat_ofNat]; omega), BitVec.toNat_ofNat]
    omega
  | ⟨1, _⟩ => rfl
  | ⟨2, _⟩ => rfl

theorem tripStart (j : Fin 4096) (h : S1x4x1024.rank = S4096x4x1024.rank) :
    Host.clampedStart S4096x4x1024 S1x4x1024 h ![(j.val : Int), 0, 0] 0 = j.val
      ∧ Host.clampedStart S4096x4x1024 S1x4x1024 h ![(j.val : Int), 0, 0] 1 = 0
      ∧ Host.clampedStart S4096x4x1024 S1x4x1024 h ![(j.val : Int), 0, 0] 2 = 0 :=
  ⟨Host.clampedStart_of_le h _ _ _ rfl (by show j.val + 1 ≤ 4096; omega), Host.clampedStart_of_le h _ _ 0 rfl (by show 0 + 4 ≤ 4; omega),
    Host.clampedStart_of_le h _ _ 0 rfl (by show 0 + 1024 ≤ 1024; omega)⟩

theorem nextRow_apply (p : FVec Ideal S1024 .f32) (y : FVec Ideal S4x1024 .f32) (w : FVec Ideal S4096x4x1024 .f32) (j : Fin 4096)
    (b : Fin 4) (d : Fin 1024) : nextRow p y w j (ix2 b d) = p (ix1 d) * y (ix2 b d) + w (ix3 j b d) := by
  obtain ⟨e0, e1, e2⟩ := tripStart j rfl
  rw [nextRow, tripAt_eq]
  pointwise []
  simp only [e0, e1, e2, Nat.zero_add, Fin.eta]

theorem withRow_apply (ys : FVec Ideal S4096x4x1024 .f32) (y : FVec Ideal S4x1024 .f32) (j t : Fin 4096)
    (b : Fin 4) (d : Fin 1024) : withRow ys y j (ix3 t b d) = if t = j then y (ix2 b d) else ys (ix3 t b d) := by
  obtain ⟨e0, e1, e2⟩ := tripStart j rfl
  rw [withRow, tripAt_eq]
  pointwise []
  simp only [e0, e1, e2]
  by_cases h : t = j
  · rw [if_pos h, dif_pos (by subst h; omega)]
    rfl
  · rw [if_neg h, dif_neg (by intro h'; exact h (Fin.ext (by omega)))]

/-- Before trip `j` the carried buffers' number is `j`, so it reads and writes at `j`. -/
theorem trip_start {V0 : Valuation τ sig (Elt Ideal)} {j : ℕ} (h : V0 (Proc.devRef .tc main_v20_2) = constantI S_ 32 (BitVec.ofNat 32 j)) :
    (fun k => (((![V0 (Proc.devRef .tc main_v20_2), constantI S_ 32 0#32, constantI S_ 32 0#32] : Fin 3 → (⟨S_, .i32⟩ : BufTy).Contents (Elt Ideal))) k (Shape.Idx.first h_S_)).toInt) = tripAt j := by
  rw [h]
  funext k
  match k with
  | ⟨0, _⟩ => rfl
  | ⟨1, _⟩ => rfl
  | ⟨2, _⟩ => rfl

theorem trip_row {V0 : Valuation τ sig (Elt Ideal)} {j : ℕ} (h : V0 (Proc.devRef .tc main_v20_2) = constantI S_ 32 (BitVec.ofNat 32 j)) :
    step_main_v20_3 V0 =
      nextRow (V0 (Proc.devRef .tc main_v20_1)) (V0 (Proc.devRef .tc main_v20_3)) (V0 (Proc.devRef .tc main_v20_0)) j := by
  unfold step_main_v20_3 res_main_while0b_v59 nextRow
  exact congrArg (fun z => addf _ (shapeCast S4x1024 (Host.dynamicSlice S1x4x1024 _ z _) _)) (trip_start h)

theorem trip_rows {V0 : Valuation τ sig (Elt Ideal)} {j : ℕ} (h : V0 (Proc.devRef .tc main_v20_2) = constantI S_ 32 (BitVec.ofNat 32 j)) :
    step_main_v20_4 V0 = withRow (V0 (Proc.devRef .tc main_v20_4)) (step_main_v20_3 V0) j := by
  unfold step_main_v20_4 step_main_v20_3 withRow
  exact congrArg (fun z => Host.dynamicUpdateSlice _ _ z _) (trip_start h)

theorem trip_number {V0 : Valuation τ sig (Elt Ideal)} {j : ℕ} (h : V0 (Proc.devRef .tc main_v20_2) = constantI S_ 32 (BitVec.ofNat 32 j)) :
    step_main_v20_2 V0 = constantI S_ 32 (BitVec.ofNat 32 (j + 1)) := by
  unfold step_main_v20_2
  rw [h]
  funext i
  exact (BitVec.ofNat_add j 1).symm

variable (m : (ℓ : Loc nD τ sig) → Buf (Elt Ideal) ℓ) (c : Dev nD)

set_option maxRecDepth 65536 in
theorem entry_number : entryContents preI m c (Proc.devRef .tc main_v20_2) = constantI S_ 32 (BitVec.ofNat 32 0) := by
  simp only [entryContents, afterL_cons, afterL_nil]
  after_reads_simp
  rfl

set_option maxRecDepth 65536 in
theorem entry_row (b : Fin 4) (d : Fin 1024) : (entryContents preI m c (Proc.devRef .tc main_v20_3) : FVec Ideal S4x1024 .f32) (ix2 b d) = (0 : EReal) := by
  have e : entryContents preI m c (Proc.devRef .tc main_v20_3) = Step.K_main_v17 (F := Ideal) := by
    simp only [entryContents, afterL_cons, afterL_nil]
    after_reads_simp
    rfl
  rw [e]
  pointwise [Step.K_main_v17, Step.K_main_cst_2]

set_option maxRecDepth 65536 in
theorem entry_rows (t : Fin 4096) (b : Fin 4) (d : Fin 1024) : (entryContents preI m c (Proc.devRef .tc main_v20_4) : FVec Ideal S4096x4x1024 .f32) (ix3 t b d) = (0 : EReal) := by
  have e : entryContents preI m c (Proc.devRef .tc main_v20_4) = Step.K_main_v19 (F := Ideal) := by
    simp only [entryContents, afterL_cons, afterL_nil]
    after_reads_simp
    rfl
  rw [e]
  pointwise [Step.K_main_v19, Step.K_main_cst_3]

set_option maxRecDepth 65536 in
theorem entry_factor (d : Fin 1024) : (entryContents preI m c (Proc.devRef .tc main_v20_1) : FVec Ideal S1024 .f32) (ix1 d) =
    Ideal.tanh (m ((c.tc : Thread nD τ).loc main_arg1) (ix1 d)) := by
  simp only [entryContents, afterL_cons, afterL_nil]
  after_reads_simp
  rfl

set_option maxRecDepth 65536 in
theorem entry_drive (t : Fin 4096) (b : Fin 4) (d : Fin 1024) : (entryContents preI m c (Proc.devRef .tc main_v20_0) : FVec Ideal S4096x4x1024 .f32) (ix3 t b d) =
    drive (fun k => m ((c.tc : Thread nD τ).loc main_arg0) (ix3 b t k)) (fun k => m ((c.tc : Thread nD τ).loc main_arg5) (ix1 k)) (fun k => m ((c.tc : Thread nD τ).loc main_arg2) (ix1 k)) d := by
  have e : entryContents preI m c (Proc.devRef .tc main_v20_0) = Step.A_main_v18 (m ((c.tc : Thread nD τ).loc main_arg0)) (m ((c.tc : Thread nD τ).loc main_arg1)) (m ((c.tc : Thread nD τ).loc main_arg2)) (m ((c.tc : Thread nD τ).loc main_arg5)) := by
    simp only [entryContents, afterL_cons, afterL_nil]
    after_reads_simp
    rfl
  rw [e]
  generalize m ((c.tc : Thread nD τ).loc main_arg0) = x0
  generalize m ((c.tc : Thread nD τ).loc main_arg2) = x2
  generalize m ((c.tc : Thread nD τ).loc main_arg5) = x5
  generalize m ((c.tc : Thread nD τ).loc main_arg1) = x1
  clean_types
  pointwise [Step.A_main_v18, Step.A_main_v16, Step.A_main_v15, Step.A_main_v14, Step.A_main_v12, Step.A_main_v11, Step.A_main_v10, Step.A_main_v9, Step.A_main_v8, Step.A_main_v7, Step.A_main_v6, Step.A_main_v4, Step.A_main_v2, Step.A_main_v1, Step.A_main_v0, Step.K_main_cst, Step.K_main_cst_0, Step.K_main_cst_1, Step.K_main_v3, Step.K_main_v5]
  exact (congrArg (· * x5 (ix1 d) * x2 (ix1 d)) (div_sqrt_meanSq (fun k => x0 (ix3 b t k)) (x0 (ix3 b t d)))).trans (mul_assoc _ _ _)

/-- The rows of a batch, and the arguments the recurrence reads. -/
def refX (b : Fin 4) (t : Fin 4096) (k : Fin 1024) : EReal := m ((c.tc : Thread nD τ).loc main_arg0) (ix3 b t k)
def refA (k : Fin 1024) : EReal := m ((c.tc : Thread nD τ).loc main_arg1) (ix1 k)
def refB (k : Fin 1024) : EReal := m ((c.tc : Thread nD τ).loc main_arg2) (ix1 k)
def refN (k : Fin 1024) : EReal := m ((c.tc : Thread nD τ).loc main_arg5) (ix1 k)

/-- What the carried buffers hold before trip `k`. -/
structure Reached (V : Valuation τ sig (Elt Ideal)) (k : ℕ) : Prop where
  number : V (Proc.devRef .tc main_v20_2) = constantI S_ 32 (BitVec.ofNat 32 k)
  factors : ∀ d, (V (Proc.devRef .tc main_v20_1) : FVec Ideal S1024 .f32) (ix1 d) = Ideal.tanh (refA m c d)
  drives : ∀ (t : Fin 4096) (b : Fin 4) (d : Fin 1024), (V (Proc.devRef .tc main_v20_0) : FVec Ideal S4096x4x1024 .f32) (ix3 t b d) =
    drive (refX m c b t) (refN m c) (refB m c) d
  row : ∀ (b : Fin 4) (d : Fin 1024), (V (Proc.devRef .tc main_v20_3) : FVec Ideal S4x1024 .f32) (ix2 b d) =
    stateRow (refX m c b) (refA m c) (refB m c) (refN m c) k d
  rows : ∀ (t : Fin 4096) (b : Fin 4) (d : Fin 1024), t.val < k →
    (V (Proc.devRef .tc main_v20_4) : FVec Ideal S4096x4x1024 .f32) (ix3 t b d) =
      stateRow (refX m c b) (refA m c) (refB m c) (refN m c) (t + 1) d

theorem reached_entry : Reached m c (entryContents preI m c) 0 where
  number := entry_number m c
  factors := entry_factor m c
  drives := entry_drive m c
  row := entry_row m c
  rows := fun t _ _ h => absurd h (Nat.not_lt_zero _)

section finite

variable {m c}
variable (hb : ∀ d, IsReal (refB m c d)) (hn : ∀ d, IsReal (refN m c d))
include hb hn

theorem Reached.next {V : Valuation τ sig (Elt Ideal)} (j : Fin 4096) (h : Reached m c V j) : Reached m c (STEP V) (j + 1) := by
  have hrow : ∀ (b : Fin 4) (d : Fin 1024), (step_main_v20_3 V : FVec Ideal S4x1024 .f32) (ix2 b d) =
      stateRow (refX m c b) (refA m c) (refB m c) (refN m c) (j + 1) d := fun b d => by
    rw [trip_row h.number, nextRow_apply, h.factors, h.row, h.drives, ← stateRow_succ (refX m c b) (refA m c) (hn d) (hb d) j]
  refine ⟨(STEP_main_v20_2 V).trans (trip_number h.number), fun d => ?_, fun t b d => ?_, fun b d => ?_, fun t b d ht => ?_⟩
  · rw [STEP_main_v20_1]; exact h.factors d
  · rw [STEP_main_v20_0]; exact h.drives t b d
  · rw [STEP_main_v20_3]; exact hrow b d
  · rw [STEP_main_v20_4, trip_rows h.number, withRow_apply]
    by_cases e : t = j
    · subst e; rw [if_pos rfl]; exact hrow b d
    · rw [if_neg e]; exact h.rows t b d (by have := Fin.val_ne_of_ne e; omega)

/-- THE LOOP: before trip `k` the carried buffers hold the recurrence's row and the rows before it. -/
theorem reached : ∀ k, k ≤ 4096 → Reached m c (STEP^[k] (entryContents preI m c)) k
  | 0, _ => reached_entry m c
  | k + 1, hk => by
    rw [Function.iterate_succ_apply']
    exact Reached.next hb hn ⟨k, hk⟩ (reached k (Nat.le_of_succ_le hk))

end finite

end Cert.Block

end
-- ==== Proof.RefLayer.lean ====
/-
  What the reference's operations after its loop make of the rows the loop keeps: the layer's rows.
-/
module

public import proofs.«01_k».proof.Proof.Layer
public import proofs.«01_k».proof.Proof.Gen.ReferenceIdeal.Run
public import Idealize.ShloMosaic.Lib.Pointwise

@[expose] public section

set_option maxRecDepth 16384

noncomputable section

namespace Cert.Block

open Idealize.ShloMosaic Idealize.ShloMosaic.TcCoe Idealize.SL.Sem Idealize.ShloMosaic.StableHlo
open Cert.ReferenceIdeal Cert.ReferenceIdeal.Gen Cert.ReferenceIdeal.Value
open scoped BigOperators

/-- The stream after the recurrence's part, over the rows the loop keeps, -/
def streamAll (x : FVec Ideal S4x4096x1024 .f32) (ys : FVec Ideal S4096x4x1024 .f32) (ow : FVec Ideal S1024x1024 .f32)
    (ob : FVec Ideal S1024 .f32) : FVec Ideal S4x4096x1024 .f32 :=
  addf x (addf (Host.dotGeneral dot_S4x4096x1024_S1024x1024_S4x4096x1024_2_1_01_0_n_n none
      (transpose S4x4096x1024 [1, 0, 2] ys transposes_S4096x4x1024_S4x4096x1024_1_0_2) ow)
    (broadcastInDim S4x4096x1024 ![0, 1, 2] bcast_S1x1x1024_S4x4096x1024_0_1_2 (broadcastInDim S1x1x1024 ![2] bcast_S1024_S1x1x1024_2 ob)))

/-- its normalisation, -/
def normedAll (z : FVec Ideal S4x4096x1024 .f32) (n : FVec Ideal S1024 .f32) : FVec Ideal S4x4096x1024 .f32 :=
  mulf (Host.divf z (broadcastInDim S4x4096x1024 ![0, 1, 2] bcast_S4x4096x1_S4x4096x1024_0_1_2
      (Host.sqrt (addf (Host.divf (broadcastInDim S4x4096x1 ![0, 1] bcast_S4x4096_S4x4096x1_0_1
          (Host.reduceAdd (mulf z z) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 n))

/-- one of the two wide maps of it, -/
def wideAll (z : FVec Ideal S4x4096x1024 .f32) (w : FVec Ideal S4096x1024 .f32) (b : FVec Ideal S4096 .f32) : FVec Ideal S4x4096x4096 .f32 :=
  addf (Host.dotGeneral dot_S4x4096x1024_S4096x1024_S4x4096x4096_2_1_01_0_n_n none z w)
    (broadcastInDim S4x4096x4096 ![0, 1, 2] bcast_S1x1x4096_S4x4096x4096_0_1_2 (broadcastInDim S1x1x4096 ![2] bcast_S4096_S1x1x4096_2 b))

/-- the gate, -/
def gateAll (g u : FVec Ideal S4x4096x4096 .f32) : FVec Ideal S4x4096x4096 .f32 :=
  mulf (mulf g (Host.divf (broadcastInDim S4x4096x4096 ![] bcast_S_S4x4096x4096 (constant S_ .f32 0x3F800000#32))
    (addf (broadcastInDim S4x4096x4096 ![] bcast_S_S4x4096x4096 (constant S_ .f32 0x3F800000#32)) (Host.exp (Host.negf g))))) u

/-- and the result. -/
def outAll (x : FVec Ideal S4x4096x1024 .f32) (v : FVec Ideal S4x4096x4096 .f32) (w3 : FVec Ideal S1024x4096 .f32)
    (b3 : FVec Ideal S1024 .f32) : FVec Ideal S4x4096x1024 .f32 :=
  addf x (addf (Host.dotGeneral dot_S4x4096x4096_S1024x4096_S4x4096x1024_2_1_01_0_n_n none v w3)
    (broadcastInDim S4x4096x1024 ![0, 1, 2] bcast_S1x1x1024_S4x4096x1024_0_1_2 (broadcastInDim S1x1x1024 ![2] bcast_S1024_S1x1x1024_2 b3)))

theorem streamAll_apply (x : FVec Ideal S4x4096x1024 .f32) (ys : FVec Ideal S4096x4x1024 .f32) (ow : FVec Ideal S1024x1024 .f32)
    (ob : FVec Ideal S1024 .f32) (b : Fin 4) (t : Fin 4096) (d : Fin 1024) :
    streamAll x ys ow ob (ix3 b t d) =
      added (fun k => x (ix3 b t k)) (fun k => ys (ix3 t b k)) (fun d k => ow (ix2 d k)) (fun d => ob (ix1 d)) d := by
  rw [added]
  pointwise [streamAll]

theorem normedAll_apply (z : FVec Ideal S4x4096x1024 .f32) (n : FVec Ideal S1024 .f32) (b : Fin 4) (t : Fin 4096) (d : Fin 1024) :
    normedAll z n (ix3 b t d) = normed (fun k => z (ix3 b t k)) (fun k => n (ix1 k)) d := by
  rw [normed, ← div_sqrt_meanSq]
  pointwise [normedAll]
  rfl

theorem wideAll_apply (z : FVec Ideal S4x4096x1024 .f32) (w : FVec Ideal S4096x1024 .f32) (c : FVec Ideal S4096 .f32)
    (b : Fin 4) (t h : Fin 4096) :
    wideAll z w c (ix3 b t h) = wide (fun k => z (ix3 b t k)) (fun h k => w (ix2 h k)) (fun h => c (ix1 h)) h := by
  rw [wide]
  pointwise [wideAll]

theorem gateAll_apply (g u : FVec Ideal S4x4096x4096 .f32) (b : Fin 4) (t h : Fin 4096) :
    gateAll g u (ix3 b t h) = g (ix3 b t h) * Ideal.logistic (g (ix3 b t h)) * u (ix3 b t h) := by
  rw [Ideal.logistic]
  pointwise [gateAll]

theorem outAll_apply (x : FVec Ideal S4x4096x1024 .f32) (v : FVec Ideal S4x4096x4096 .f32) (w3 : FVec Ideal S1024x4096 .f32)
    (b3 : FVec Ideal S1024 .f32) (b : Fin 4) (t : Fin 4096) (d : Fin 1024) :
    outAll x v w3 b3 (ix3 b t d) = x (ix3 b t d) + ((∑ h, v (ix3 b t h) * w3 (ix2 d h)) + b3 (ix1 d)) := by
  pointwise [outAll]

/-- The result, of the loop's rows and the arguments. -/
def resultOf (x : FVec Ideal S4x4096x1024 .f32) (ys : FVec Ideal S4096x4x1024 .f32) (ow : FVec Ideal S1024x1024 .f32)
    (ob n2 : FVec Ideal S1024 .f32) (w1 : FVec Ideal S4096x1024 .f32) (b1 : FVec Ideal S4096 .f32) (w2 : FVec Ideal S4096x1024 .f32)
    (b2 : FVec Ideal S4096 .f32) (w3 : FVec Ideal S1024x4096 .f32) (b3 : FVec Ideal S1024 .f32) : FVec Ideal S4x4096x1024 .f32 :=
  outAll (streamAll x ys ow ob)
    (gateAll (wideAll (normedAll (streamAll x ys ow ob) n2) w2 b2) (wideAll (normedAll (streamAll x ys ow ob) n2) w1 b1)) w3 b3

theorem resultOf_apply (x : FVec Ideal S4x4096x1024 .f32) (ys : FVec Ideal S4096x4x1024 .f32) (ow : FVec Ideal S1024x1024 .f32)
    (ob n2 : FVec Ideal S1024 .f32) (w1 : FVec Ideal S4096x1024 .f32) (b1 : FVec Ideal S4096 .f32) (w2 : FVec Ideal S4096x1024 .f32)
    (b2 : FVec Ideal S4096 .f32) (w3 : FVec Ideal S1024x4096 .f32) (b3 : FVec Ideal S1024 .f32) (b : Fin 4) (t : Fin 4096)
    (d : Fin 1024) :
    resultOf x ys ow ob n2 w1 b1 w2 b2 w3 b3 (ix3 b t d) =
      layerRow (added (fun k => x (ix3 b t k)) (fun k => ys (ix3 t b k)) (fun d k => ow (ix2 d k)) (fun d => ob (ix1 d)))
        (fun k => n2 (ix1 k)) (fun h k => w1 (ix2 h k)) (fun h => b1 (ix1 h)) (fun h k => w2 (ix2 h k)) (fun h => b2 (ix1 h))
        (fun d h => w3 (ix2 d h)) (fun d => b3 (ix1 d)) d := by
  simp only [resultOf, outAll_apply, gateAll_apply, wideAll_apply, normedAll_apply, streamAll_apply]
  rfl

/-- The generated result is `resultOf` of the buffers after the loop. -/
theorem out_eq (V0 : Valuation τ sig (Elt Ideal)) :
    out_main_v54 V0 = resultOf (V0 (Proc.devRef .tc main_arg0)) (V0 (Proc.devRef .tc main_v20_4)) (V0 (Proc.devRef .tc main_arg3))
      (V0 (Proc.devRef .tc main_arg4)) (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11)) (V0 (Proc.devRef .tc main_arg12)) := by
  unfold out_main_v54
  rfl

end Cert.Block

end
-- ==== Proof.Equation.lean ====
/-
  The reference's result at an index, what the precondition gives, and the equation of the two results.
-/
module

public import proofs.«01_k».proof.Defs
public import proofs.«01_k».proof.Proof.ArrayValue
public import proofs.«01_k».proof.Proof.RefLoop
public import proofs.«01_k».proof.Proof.RefLayer
public import proofs.«01_k».proof.Proof.Gen.Pre_finite_drive

@[expose] public section

set_option maxRecDepth 16384

noncomputable section

namespace Cert.Block

open Idealize.ShloMosaic Idealize.ShloMosaic.TcCoe Idealize.SL.Sem Idealize.ShloMosaic.StableHlo

/-- A value whose magnitude is below infinity is real. -/
theorem isReal_of_magnitude {x : EReal} (h : max x (-x) < Ideal.ofBits .f32 0x7F800000#32) : IsReal x := by
  have htop : Ideal.ofBits .f32 0x7F800000#32 = ⊤ := by
    simp [Ideal.ofBits, Ideal.ieee]
  rw [htop] at h
  induction x with
  | bot => simp at h
  | top => simp at h
  | coe r => exact IsReal.coe r

theorem both_of_andi {p q : Prop} [Decidable p] [Decidable q]
    (h : IntOp.andi (BitVec.ofBool (decide p)) (BitVec.ofBool (decide q)) = 1#1) : p ∧ q := by
  by_cases hp : p
  · by_cases hq : q
    · exact ⟨hp, hq⟩
    · rw [decide_eq_true hp, decide_eq_false hq] at h; exact absurd h (by decide)
  · by_cases hq : q
    · rw [decide_eq_false hp, decide_eq_true hq] at h; exact absurd h (by decide)
    · rw [decide_eq_false hp, decide_eq_false hq] at h; exact absurd h (by decide)

/-- The precondition: the input weights and the first normalisation's are real. -/
theorem pre_real (m : (ℓ : Loc Cert.KernelIdeal.nD Cert.KernelIdeal.τ Cert.KernelIdeal.sig) → Buf (Elt Ideal) ℓ)
    (h : Pre_KernelIdeal_finite_drive m) (c : Dev Cert.KernelIdeal.nD) (d : Fin 1024) :
    IsReal (argB m c d) ∧ IsReal (argN m c d) := by
  have e := congrFun (h c) (ix1 d)
  rw [Cert.Pre_finite_drive.fn] at e
  unfold argB argN
  generalize m ((c.tc : Thread Cert.KernelIdeal.nD Cert.KernelIdeal.τ).loc Cert.KernelIdeal.main_arg2) = x2 at e ⊢
  generalize m ((c.tc : Thread Cert.KernelIdeal.nD Cert.KernelIdeal.τ).loc Cert.KernelIdeal.main_arg5) = x5 at e ⊢
  pointwise [] at e
  exact ⟨isReal_of_magnitude (both_of_andi e).1, isReal_of_magnitude (both_of_andi e).2⟩

open Cert.ReferenceIdeal Cert.ReferenceIdeal.Gen Cert.ReferenceIdeal.Value in
/-- THE REFERENCE'S RESULT is the layer. -/
theorem result_apply (m : (ℓ : Loc nD τ sig) → Buf (Elt Ideal) ℓ) (c : Dev nD)
    (hb : ∀ d, IsReal (refB m c d)) (hn : ∀ d, IsReal (refN m c d)) (b : Fin 4) (t : Fin 4096) (d : Fin 1024) :
    out_main_v54 (STEP^[4096] (entryContents preI m c)) (ix3 b t d) =
      layer (refX m c b) (refA m c) (refB m c) (fun d k => m ((c.tc : Thread nD τ).loc main_arg3) (ix2 d k))
        (fun d => m ((c.tc : Thread nD τ).loc main_arg4) (ix1 d)) (refN m c) (fun d => m ((c.tc : Thread nD τ).loc main_arg6) (ix1 d))
        (fun h k => m ((c.tc : Thread nD τ).loc main_arg7) (ix2 h k)) (fun h => m ((c.tc : Thread nD τ).loc main_arg8) (ix1 h))
        (fun h k => m ((c.tc : Thread nD τ).loc main_arg9) (ix2 h k)) (fun h => m ((c.tc : Thread nD τ).loc main_arg10) (ix1 h))
        (fun d h => m ((c.tc : Thread nD τ).loc main_arg11) (ix2 d h)) (fun d => m ((c.tc : Thread nD τ).loc main_arg12) (ix1 d)) t d := by
  have hr := reached hb hn 4096 le_rfl
  rw [out_eq, iter_main_arg0, iter_main_arg3, iter_main_arg4, iter_main_arg6, iter_main_arg7, iter_main_arg8, iter_main_arg9,
    iter_main_arg10, iter_main_arg11, iter_main_arg12, resultOf_apply]
  simp only [fun k => hr.rows t b k t.isLt]
  rfl

/-- THE TWO RESULTS ARE EQUAL where the arguments are. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite_drive m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.out_main_v54 (Cert.ReferenceIdeal.Value.STEP^[4096]
      (entryContents Cert.ReferenceIdeal.Value.preI m' c)) = Cert.KernelIdeal.Value.G13 m c := by
  obtain ⟨e0, e1, e2, e3, e4, e5, e6, e7, e8, e9, e10, e11, e12⟩ := hagree
  have hb : ∀ d, IsReal (argB m c d) := fun d => (pre_real m hpre c d).1
  have hn : ∀ d, IsReal (argN m c d) := fun d => (pre_real m hpre c d).2
  have hx : ∀ b, refX m' c b = argX m c b := fun b => by funext t k; exact congrFun e0 (ix3 b t k)
  have ha : refA m' c = argA m c := by funext k; exact congrFun e1 (ix1 k)
  have hB : refB m' c = argB m c := by funext k; exact congrFun e2 (ix1 k)
  have hN : refN m' c = argN m c := by funext k; exact congrFun e5 (ix1 k)
  funext i
  idx_vars i
  refine Eq.trans (result_apply m' c (by rw [hB]; exact hb) (by rw [hN]; exact hn) _ _ _) (Eq.trans ?_ (array_apply m c hb hn _ _ _).symm)
  rw [hx, ha, hB, hN, e3, e4, e6, e7, e8, e9, e10, e11, e12]
  rfl

end Cert.Block

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_drive
public import proofs.«01_k».proof.Proof.Gen.ReferenceIdeal.Run
public import proofs.«01_k».proof.Proof.Gen.ReferenceIdeal.Step
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, keeps its arguments, and has no semaphore to leave nonzero. -/
theorem referenceFrame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the reference's are the same layer over the same arguments. -/
theorem algebraic_KernelIdeal_ReferenceIdeal : algebraic_KernelIdeal_ReferenceIdeal_pre_finite_drive := by
  intro m ρ m' ρ' hpre hagree
  refine ⟨_, Cert.KernelIdeal.Value.run (F := Ideal) m ρ, ?_⟩
  exact (θ_run Cert.ReferenceIdeal.defs _ _).mono
    (fun _ h c => ⟨(h c).1.trans (Cert.Block.results_eq m m' hpre c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_drive.Gen.facts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, (trivial : preserves_Kernel_KernelIdeal), algebraic_KernelIdeal_ReferenceIdeal⟩

end Cert.Proof

end
